-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 128]⟩ ⟨2, ![4096, 128]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S16x256x128 : Shape := ⟨3, ![16, 256, 128]⟩
abbrev S4 : Shape := ⟨1, ![4]⟩
abbrev S_ : Shape := ⟨0, ![]⟩
abbrev S128x2x1x128 : Shape := ⟨4, ![128, 2, 1, 128]⟩
abbrev S128x1x1x128 : Shape := ⟨4, ![128, 1, 1, 128]⟩
abbrev S128x1x128 : Shape := ⟨3, ![128, 1, 128]⟩
abbrev S128x1x1 : Shape := ⟨3, ![128, 1, 1]⟩
abbrev S64x2x2x128 : Shape := ⟨4, ![64, 2, 2, 128]⟩
abbrev S64x1x2x128 : Shape := ⟨4, ![64, 1, 2, 128]⟩
abbrev S64x2x128 : Shape := ⟨3, ![64, 2, 128]⟩
abbrev S64x1x1 : Shape := ⟨3, ![64, 1, 1]⟩
abbrev S32x2x4x128 : Shape := ⟨4, ![32, 2, 4, 128]⟩
abbrev S32x1x4x128 : Shape := ⟨4, ![32, 1, 4, 128]⟩
abbrev S32x4x128 : Shape := ⟨3, ![32, 4, 128]⟩
abbrev S32x1x1 : Shape := ⟨3, ![32, 1, 1]⟩
abbrev S16x2x8x128 : Shape := ⟨4, ![16, 2, 8, 128]⟩
abbrev S16x1x8x128 : Shape := ⟨4, ![16, 1, 8, 128]⟩
abbrev S16x8x128 : Shape := ⟨3, ![16, 8, 128]⟩
abbrev S16x1x1 : Shape := ⟨3, ![16, 1, 1]⟩
abbrev S8x2x16x128 : Shape := ⟨4, ![8, 2, 16, 128]⟩
abbrev S8x1x16x128 : Shape := ⟨4, ![8, 1, 16, 128]⟩
abbrev S8x16x128 : Shape := ⟨3, ![8, 16, 128]⟩
abbrev S8x1x1 : Shape := ⟨3, ![8, 1, 1]⟩
abbrev S4x2x32x128 : Shape := ⟨4, ![4, 2, 32, 128]⟩
abbrev S4x1x32x128 : Shape := ⟨4, ![4, 1, 32, 128]⟩
abbrev S4x32x128 : Shape := ⟨3, ![4, 32, 128]⟩
abbrev S4x1x1 : Shape := ⟨3, ![4, 1, 1]⟩
abbrev S2x2x64x128 : Shape := ⟨4, ![2, 2, 64, 128]⟩
abbrev S2x1x64x128 : Shape := ⟨4, ![2, 1, 64, 128]⟩
abbrev S2x64x128 : Shape := ⟨3, ![2, 64, 128]⟩
abbrev S2x1x1 : Shape := ⟨3, ![2, 1, 1]⟩
abbrev S1x2x128x128 : Shape := ⟨4, ![1, 2, 128, 128]⟩
abbrev S1x1x128x128 : Shape := ⟨4, ![1, 1, 128, 128]⟩
abbrev S1x128x128 : Shape := ⟨3, ![1, 128, 128]⟩
abbrev S1x1x1 : Shape := ⟨3, ![1, 1, 1]⟩
abbrev S1x256x128 : Shape := ⟨3, ![1, 256, 128]⟩
abbrev S1 : Shape := ⟨1, ![1]⟩
abbrev S2x256x128 : Shape := ⟨3, ![2, 256, 128]⟩
abbrev S512x128 : Shape := ⟨2, ![512, 128]⟩
abbrev S1x2x256x128 : Shape := ⟨4, ![1, 2, 256, 128]⟩
abbrev S1x1x256x128 : Shape := ⟨4, ![1, 1, 256, 128]⟩
abbrev S2x2x128x128 : Shape := ⟨4, ![2, 2, 128, 128]⟩
abbrev S2x1x128x128 : Shape := ⟨4, ![2, 1, 128, 128]⟩
abbrev S2x128x128 : Shape := ⟨3, ![2, 128, 128]⟩
abbrev S4x2x64x128 : Shape := ⟨4, ![4, 2, 64, 128]⟩
abbrev S4x1x64x128 : Shape := ⟨4, ![4, 1, 64, 128]⟩
abbrev S4x64x128 : Shape := ⟨3, ![4, 64, 128]⟩
abbrev S8x2x32x128 : Shape := ⟨4, ![8, 2, 32, 128]⟩
abbrev S8x1x32x128 : Shape := ⟨4, ![8, 1, 32, 128]⟩
abbrev S8x32x128 : Shape := ⟨3, ![8, 32, 128]⟩
abbrev S16x2x16x128 : Shape := ⟨4, ![16, 2, 16, 128]⟩
abbrev S16x1x16x128 : Shape := ⟨4, ![16, 1, 16, 128]⟩
abbrev S16x16x128 : Shape := ⟨3, ![16, 16, 128]⟩
abbrev S32x2x8x128 : Shape := ⟨4, ![32, 2, 8, 128]⟩
abbrev S32x1x8x128 : Shape := ⟨4, ![32, 1, 8, 128]⟩
abbrev S32x8x128 : Shape := ⟨3, ![32, 8, 128]⟩
abbrev S64x2x4x128 : Shape := ⟨4, ![64, 2, 4, 128]⟩
abbrev S64x1x4x128 : Shape := ⟨4, ![64, 1, 4, 128]⟩
abbrev S64x4x128 : Shape := ⟨3, ![64, 4, 128]⟩
abbrev S128x2x2x128 : Shape := ⟨4, ![128, 2, 2, 128]⟩
abbrev S128x1x2x128 : Shape := ⟨4, ![128, 1, 2, 128]⟩
abbrev S128x2x128 : Shape := ⟨3, ![128, 2, 128]⟩
abbrev S256x2x1x128 : Shape := ⟨4, ![256, 2, 1, 128]⟩
abbrev S256x1x1x128 : Shape := ⟨4, ![256, 1, 1, 128]⟩
abbrev S256x1x128 : Shape := ⟨3, ![256, 1, 128]⟩
abbrev S4x256x128 : Shape := ⟨3, ![4, 256, 128]⟩
abbrev S1024x128 : Shape := ⟨2, ![1024, 128]⟩
abbrev S1x2x512x128 : Shape := ⟨4, ![1, 2, 512, 128]⟩
abbrev S1x1x512x128 : Shape := ⟨4, ![1, 1, 512, 128]⟩
abbrev S1x512x128 : Shape := ⟨3, ![1, 512, 128]⟩
abbrev S2x2x256x128 : Shape := ⟨4, ![2, 2, 256, 128]⟩
abbrev S2x1x256x128 : Shape := ⟨4, ![2, 1, 256, 128]⟩
abbrev S4x2x128x128 : Shape := ⟨4, ![4, 2, 128, 128]⟩
abbrev S4x1x128x128 : Shape := ⟨4, ![4, 1, 128, 128]⟩
abbrev S4x128x128 : Shape := ⟨3, ![4, 128, 128]⟩
abbrev S8x2x64x128 : Shape := ⟨4, ![8, 2, 64, 128]⟩
abbrev S8x1x64x128 : Shape := ⟨4, ![8, 1, 64, 128]⟩
abbrev S8x64x128 : Shape := ⟨3, ![8, 64, 128]⟩
abbrev S16x2x32x128 : Shape := ⟨4, ![16, 2, 32, 128]⟩
abbrev S16x1x32x128 : Shape := ⟨4, ![16, 1, 32, 128]⟩
abbrev S16x32x128 : Shape := ⟨3, ![16, 32, 128]⟩
abbrev S32x2x16x128 : Shape := ⟨4, ![32, 2, 16, 128]⟩
abbrev S32x1x16x128 : Shape := ⟨4, ![32, 1, 16, 128]⟩
abbrev S32x16x128 : Shape := ⟨3, ![32, 16, 128]⟩
abbrev S64x2x8x128 : Shape := ⟨4, ![64, 2, 8, 128]⟩
abbrev S64x1x8x128 : Shape := ⟨4, ![64, 1, 8, 128]⟩
abbrev S64x8x128 : Shape := ⟨3, ![64, 8, 128]⟩
abbrev S128x2x4x128 : Shape := ⟨4, ![128, 2, 4, 128]⟩
abbrev S128x1x4x128 : Shape := ⟨4, ![128, 1, 4, 128]⟩
abbrev S128x4x128 : Shape := ⟨3, ![128, 4, 128]⟩
abbrev S256x2x2x128 : Shape := ⟨4, ![256, 2, 2, 128]⟩
abbrev S256x1x2x128 : Shape := ⟨4, ![256, 1, 2, 128]⟩
abbrev S256x2x128 : Shape := ⟨3, ![256, 2, 128]⟩
abbrev S512x2x1x128 : Shape := ⟨4, ![512, 2, 1, 128]⟩
abbrev S512x1x1x128 : Shape := ⟨4, ![512, 1, 1, 128]⟩
abbrev S512x1x128 : Shape := ⟨3, ![512, 1, 128]⟩
abbrev S8x256x128 : Shape := ⟨3, ![8, 256, 128]⟩
abbrev S2048x128 : Shape := ⟨2, ![2048, 128]⟩
abbrev S1x2x1024x128 : Shape := ⟨4, ![1, 2, 1024, 128]⟩
abbrev S1x1x1024x128 : Shape := ⟨4, ![1, 1, 1024, 128]⟩
abbrev S1x1024x128 : Shape := ⟨3, ![1, 1024, 128]⟩
abbrev S2x2x512x128 : Shape := ⟨4, ![2, 2, 512, 128]⟩
abbrev S2x1x512x128 : Shape := ⟨4, ![2, 1, 512, 128]⟩
abbrev S2x512x128 : Shape := ⟨3, ![2, 512, 128]⟩
abbrev S4x2x256x128 : Shape := ⟨4, ![4, 2, 256, 128]⟩
abbrev S4x1x256x128 : Shape := ⟨4, ![4, 1, 256, 128]⟩
abbrev S8x2x128x128 : Shape := ⟨4, ![8, 2, 128, 128]⟩
abbrev S8x1x128x128 : Shape := ⟨4, ![8, 1, 128, 128]⟩
abbrev S8x128x128 : Shape := ⟨3, ![8, 128, 128]⟩
abbrev S16x2x64x128 : Shape := ⟨4, ![16, 2, 64, 128]⟩
abbrev S16x1x64x128 : Shape := ⟨4, ![16, 1, 64, 128]⟩
abbrev S16x64x128 : Shape := ⟨3, ![16, 64, 128]⟩
abbrev S32x2x32x128 : Shape := ⟨4, ![32, 2, 32, 128]⟩
abbrev S32x1x32x128 : Shape := ⟨4, ![32, 1, 32, 128]⟩
abbrev S32x32x128 : Shape := ⟨3, ![32, 32, 128]⟩
abbrev S64x2x16x128 : Shape := ⟨4, ![64, 2, 16, 128]⟩
abbrev S64x1x16x128 : Shape := ⟨4, ![64, 1, 16, 128]⟩
abbrev S64x16x128 : Shape := ⟨3, ![64, 16, 128]⟩
abbrev S128x2x8x128 : Shape := ⟨4, ![128, 2, 8, 128]⟩
abbrev S128x1x8x128 : Shape := ⟨4, ![128, 1, 8, 128]⟩
abbrev S128x8x128 : Shape := ⟨3, ![128, 8, 128]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S512x2x2x128 : Shape := ⟨4, ![512, 2, 2, 128]⟩
abbrev S512x1x2x128 : Shape := ⟨4, ![512, 1, 2, 128]⟩
abbrev S512x2x128 : Shape := ⟨3, ![512, 2, 128]⟩
abbrev S1024x2x1x128 : Shape := ⟨4, ![1024, 2, 1, 128]⟩
abbrev S1024x1x1x128 : Shape := ⟨4, ![1024, 1, 1, 128]⟩
abbrev S1024x1x128 : Shape := ⟨3, ![1024, 1, 128]⟩
abbrev S4096x128 : Shape := ⟨2, ![4096, 128]⟩

abbrev nBuf : Space → Nat
  | .hbm => 2
  | .vmem => 3
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S16x256x128, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_2 : BitVec 32 := 1#32
  let v8 : BitVec 32 := Scalar.muli v3 c1_i32_2
  let v9 : BitVec 32 := Scalar.addi c0_i32 v8
  v9.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.xori v2 c2_i32
  let c1_i32_4 : BitVec 32 := 1#32
  let v10 : BitVec 32 := Scalar.muli v4 c1_i32_4
  let v11 : BitVec 32 := Scalar.addi c0_i32_5 v10
  v11.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_7 : BitVec 32 := 1#32
  let v12 : BitVec 32 := Scalar.muli v5 c1_i32_7
  let v13 : BitVec 32 := Scalar.addi c0_i32_8 v12
  v13.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_10 : BitVec 32 := 1#32
  let v14 : BitVec 32 := Scalar.muli v6 c1_i32_10
  let v15 : BitVec 32 := Scalar.addi c0_i32_11 v14
  v15.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v956 : Index := Scalar.indexCast v2
  let c0_147 : Index := 0#32
  let c0_148 : Index := 0#32
  ![v956.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_150 : BitVec 32 := 0#32
  let v961 : BitVec 32 := Scalar.shrsi v2 c0_i32_150
  let c0_i32_151 : BitVec 32 := 0#32
  let v962 : BitVec 32 := Scalar.shli v961 c0_i32_151
  let c0_i32_158 : BitVec 32 := 0#32
  let c0_i32_159 : BitVec 32 := 0#32
  ![v962.toNat, 0, 0]
def k0_dev5 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_149 : BitVec 32 := 1#32
  let v960 : BitVec 32 := Scalar.xori v2 c1_i32_149
  let c1_i32_156 : BitVec 32 := 1#32
  let v965 : BitVec 32 := Scalar.muli v960 c1_i32_156
  let v966 : BitVec 32 := Scalar.addi c0_i32_157 v965
  v966.toNat
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_152 : BitVec 32 := 1#32
  let v963 : BitVec 32 := Scalar.shrsi v2 c1_i32_152
  let c1_i32_153 : BitVec 32 := 1#32
  let v964 : BitVec 32 := Scalar.shli v963 c1_i32_153
  let v985 : Index := Scalar.indexCast v964
  let c0_179 : Index := 0#32
  let c0_180 : Index := 0#32
  ![v985.toNat, 0, 0]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_193 : BitVec 32 := 1#32
  let v1120 : BitVec 32 := Scalar.shrsi v2 c1_i32_193
  let c1_i32_194 : BitVec 32 := 1#32
  let v1121 : BitVec 32 := Scalar.shli v1120 c1_i32_194
  let c0_i32_201 : BitVec 32 := 0#32
  let c0_i32_202 : BitVec 32 := 0#32
  ![v1121.toNat, 0, 0]
def k0_dev6 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_192 : BitVec 32 := 2#32
  let v1119 : BitVec 32 := Scalar.xori v2 c2_i32_192
  let c1_i32_199 : BitVec 32 := 1#32
  let v1124 : BitVec 32 := Scalar.muli v1119 c1_i32_199
  let v1125 : BitVec 32 := Scalar.addi c0_i32_200 v1124
  v1125.toNat
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_195 : BitVec 32 := 2#32
  let v1122 : BitVec 32 := Scalar.shrsi v2 c2_i32_195
  let c2_i32_196 : BitVec 32 := 2#32
  let v1123 : BitVec 32 := Scalar.shli v1122 c2_i32_196
  let v1144 : Index := Scalar.indexCast v1123
  let c0_222 : Index := 0#32
  let c0_223 : Index := 0#32
  ![v1144.toNat, 0, 0]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_237 : BitVec 32 := 2#32
  let v1293 : BitVec 32 := Scalar.shrsi v2 c2_i32_237
  let c2_i32_238 : BitVec 32 := 2#32
  let v1294 : BitVec 32 := Scalar.shli v1293 c2_i32_238
  let c0_i32_245 : BitVec 32 := 0#32
  let c0_i32_246 : BitVec 32 := 0#32
  ![v1294.toNat, 0, 0]
def k0_dev7 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_236 : BitVec 32 := 4#32
  let v1292 : BitVec 32 := Scalar.xori v2 c4_i32_236
  let c1_i32_243 : BitVec 32 := 1#32
  let v1297 : BitVec 32 := Scalar.muli v1292 c1_i32_243
  let v1298 : BitVec 32 := Scalar.addi c0_i32_244 v1297
  v1298.toNat
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_239 : BitVec 32 := 3#32
  let v1295 : BitVec 32 := Scalar.shrsi v2 c3_i32_239
  let c3_i32_240 : BitVec 32 := 3#32
  let v1296 : BitVec 32 := Scalar.shli v1295 c3_i32_240
  let v1317 : Index := Scalar.indexCast v1296
  let c0_266 : Index := 0#32
  let c0_267 : Index := 0#32
  ![v1317.toNat, 0, 0]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_282 : BitVec 32 := 3#32
  let v1480 : BitVec 32 := Scalar.shrsi v2 c3_i32_282
  let c3_i32_283 : BitVec 32 := 3#32
  let v1481 : BitVec 32 := Scalar.shli v1480 c3_i32_283
  let c0_i32_288 : BitVec 32 := 0#32
  let c0_i32_289 : BitVec 32 := 0#32
  ![v1481.toNat, 0, 0]
def k0_dev8 (d0 : Dev nD) : Nat :=
  let c0_i32_287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_281 : BitVec 32 := 8#32
  let v1479 : BitVec 32 := Scalar.xori v2 c8_i32_281
  let c1_i32_286 : BitVec 32 := 1#32
  let v1482 : BitVec 32 := Scalar.muli v1479 c1_i32_286
  let v1483 : BitVec 32 := Scalar.addi c0_i32_287 v1482
  v1483.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x128 : Shape := ⟨2, ![4096, 128]⟩

abbrev nBuf : Space → Nat
  | .hbm => 2
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.FlatIdeal.lean ====
/-
# `KernelIdeal`'s body as one straight line of effects

The printed body comes in parts, each part handing the next a half-finished comparison step. Here the values the parts
hand on are named (`loc1` … `loc18` for the local sort, then `merge1`, `merge2`, `merge3` and `final` for the four rounds
between devices), and the body is shown to be the line of its effects with these names as what it stores.
-/
module

public import proofs.«01_k».proof.Proof.Gen.KernelIdeal.Skeleton
public import Idealize.ShloMosaic.Lib.Pipeline.Regions

@[expose] public section

noncomputable section

namespace Cert.KernelIdeal.Sort

open Cert.KernelIdeal Cert.KernelIdeal.Gen
open Idealize.ShloMosaic Idealize.ShloMosaic.TcCoe
open Idealize.SL.Sem

variable {F : FTy → Type} [FloatOps F]

/-- The device's number as the kernel computes it. -/
def pos (c : Dev nD) : BitVec 32 := Scalar.remsi (Scalar.divsi (Dev.word c) 1#32) 16#32
/-- Its bit 0, 1, 2, 3: the directions the kernel reads off it. -/
def bit0 (c : Dev nD) : BitVec 32 := Scalar.andi (pos c) 1#32
def bit1 (c : Dev nD) : BitVec 32 := Scalar.andi (Scalar.shrsi (pos c) 1#32) 1#32
def bit2 (c : Dev nD) : BitVec 32 := Scalar.andi (Scalar.shrsi (pos c) 2#32) 1#32
def bit3 (c : Dev nD) : BitVec 32 := Scalar.andi (Scalar.shrsi (pos c) 3#32) 1#32

/-! ## The local sort: what each part hands the next -/

def loc1 (x : FVec F S256x128 .f32) := (k0_pay5 x, k0_pay6 x, k0_pay7, k0_pay8)
def loc2 (x : FVec F S256x128 .f32) := (k0_pay12 (loc1 x).1 (loc1 x).2.1 (loc1 x).2.2.1 (loc1 x).2.2.2, k0_pay13 (loc1 x).1 (loc1 x).2.1 (loc1 x).2.2.1 (loc1 x).2.2.2, k0_pay14, k0_pay15)
def loc3 (x : FVec F S256x128 .f32) := (k0_pay19 (loc2 x).1 (loc2 x).2.1 (loc2 x).2.2.1 (loc2 x).2.2.2, k0_pay20 (loc2 x).1 (loc2 x).2.1 (loc2 x).2.2.1 (loc2 x).2.2.2, k0_pay21, k0_pay22)
def loc4 (x : FVec F S256x128 .f32) := (k0_pay26 (loc3 x).1 (loc3 x).2.1 (loc3 x).2.2.1 (loc3 x).2.2.2, k0_pay27 (loc3 x).1 (loc3 x).2.1 (loc3 x).2.2.1 (loc3 x).2.2.2, k0_pay28, k0_pay29)
def loc5 (x : FVec F S256x128 .f32) := (k0_pay33 (loc4 x).1 (loc4 x).2.1 (loc4 x).2.2.1 (loc4 x).2.2.2, k0_pay34 (loc4 x).1 (loc4 x).2.1 (loc4 x).2.2.1 (loc4 x).2.2.2, k0_pay35, k0_pay36)
def loc6 (x : FVec F S256x128 .f32) := (k0_pay40 (loc5 x).1 (loc5 x).2.1 (loc5 x).2.2.1 (loc5 x).2.2.2, k0_pay41 (loc5 x).1 (loc5 x).2.1 (loc5 x).2.2.1 (loc5 x).2.2.2, k0_pay42, k0_pay43)
def loc7 (x : FVec F S256x128 .f32) := (k0_pay47 (loc6 x).1 (loc6 x).2.1 (loc6 x).2.2.1 (loc6 x).2.2.2, k0_pay48 (loc6 x).1 (loc6 x).2.1 (loc6 x).2.2.1 (loc6 x).2.2.2, k0_pay49, k0_pay50)
def loc8 (x : FVec F S256x128 .f32) := (k0_pay54 (loc7 x).1 (loc7 x).2.1 (loc7 x).2.2.1 (loc7 x).2.2.2, k0_pay55 (loc7 x).1 (loc7 x).2.1 (loc7 x).2.2.1 (loc7 x).2.2.2, k0_pay56, k0_pay57)
def loc9 (x : FVec F S256x128 .f32) := (k0_pay61 (loc8 x).1 (loc8 x).2.1 (loc8 x).2.2.1 (loc8 x).2.2.2, k0_pay62 (loc8 x).1 (loc8 x).2.1 (loc8 x).2.2.1 (loc8 x).2.2.2, k0_pay63, k0_pay64)
def loc10 (x : FVec F S256x128 .f32) := (k0_pay68 (loc9 x).1 (loc9 x).2.1 (loc9 x).2.2.1 (loc9 x).2.2.2, k0_pay69 (loc9 x).1 (loc9 x).2.1 (loc9 x).2.2.1 (loc9 x).2.2.2, k0_pay70, k0_pay71)
def loc11 (x : FVec F S256x128 .f32) := (k0_pay75 (loc10 x).1 (loc10 x).2.1 (loc10 x).2.2.1 (loc10 x).2.2.2, k0_pay76 (loc10 x).1 (loc10 x).2.1 (loc10 x).2.2.1 (loc10 x).2.2.2, k0_pay77, k0_pay78)
def loc12 (x : FVec F S256x128 .f32) := (k0_pay82 (loc11 x).1 (loc11 x).2.1 (loc11 x).2.2.1 (loc11 x).2.2.2, k0_pay83 (loc11 x).1 (loc11 x).2.1 (loc11 x).2.2.1 (loc11 x).2.2.2, k0_pay84, k0_pay85)
def loc13 (x : FVec F S256x128 .f32) := (k0_pay89 (loc12 x).1 (loc12 x).2.1 (loc12 x).2.2.1 (loc12 x).2.2.2, k0_pay90 (loc12 x).1 (loc12 x).2.1 (loc12 x).2.2.1 (loc12 x).2.2.2, k0_pay91, k0_pay92)
def loc14 (x : FVec F S256x128 .f32) := (k0_pay96 (loc13 x).1 (loc13 x).2.1 (loc13 x).2.2.1 (loc13 x).2.2.2, k0_pay97 (loc13 x).1 (loc13 x).2.1 (loc13 x).2.2.1 (loc13 x).2.2.2, k0_pay98, k0_pay99)
def loc15 (x : FVec F S256x128 .f32) := (k0_pay103 (loc14 x).1 (loc14 x).2.1 (loc14 x).2.2.1 (loc14 x).2.2.2, k0_pay104 (loc14 x).1 (loc14 x).2.1 (loc14 x).2.2.1 (loc14 x).2.2.2, k0_pay105)
def loc16 (d : BitVec 32) (x : FVec F S256x128 .f32) := (k0_pay109 d (loc15 x).1 (loc15 x).2.1 (loc15 x).2.2, k0_pay110 d (loc15 x).1 (loc15 x).2.1 (loc15 x).2.2, k0_pay111, k0_pay112)
def loc17 (d : BitVec 32) (x : FVec F S256x128 .f32) := (k0_pay116 d (loc16 d x).1 (loc16 d x).2.1 (loc16 d x).2.2.1 (loc16 d x).2.2.2, k0_pay117 d (loc16 d x).1 (loc16 d x).2.1 (loc16 d x).2.2.1 (loc16 d x).2.2.2, k0_pay118, k0_pay119 d)
def loc18 (d : BitVec 32) (x : FVec F S256x128 .f32) := (k0_pay123 d (loc17 d x).1 (loc17 d x).2.1 (loc17 d x).2.2.1 (loc17 d x).2.2.2, k0_pay124 d (loc17 d x).1 (loc17 d x).2.1 (loc17 d x).2.2.1 (loc17 d x).2.2.2, k0_pay125 d)
/-- The device's own block sorted, ascending if `d` is zero and descending if it is one. -/
def localSort (d : BitVec 32) (x : FVec F S256x128 .f32) : FVec F S1x256x128 .bf16 :=
  k0_pay126 d (loc18 d x).1 (loc18 d x).2.1 (loc18 d x).2.2 1#32

/-! ## The merges of rounds 1 to 3 and the last round -/

/-- Scalar test: is the direction one? -/
def isOne (d : BitVec 32) : BitVec 1 := Scalar.cmpi .eq d 1#32

def m1a (d : BitVec 32) (v : FVec F S2x256x128 .bf16) := (k0_pay135 d (k0_pay130 v) (k0_pay131 v) (isOne d), k0_pay136 d (k0_pay130 v) (k0_pay131 v) (isOne d))
def m1b (d : BitVec 32) (v : FVec F S2x256x128 .bf16) := (k0_pay140 d (m1a d v).1 (m1a d v).2 (isOne d), k0_pay141 d (m1a d v).1 (m1a d v).2 (isOne d))
/-- The merge of two blocks. -/
def merge1 (d : BitVec 32) (v : FVec F S2x256x128 .bf16) : FVec F S2x256x128 .bf16 := k0_pay142 (m1b d v).1 (m1b d v).2 (isOne d)

def m2a (p : BitVec 32) (v : FVec F S4x256x128 .bf16) := (k0_pay148 p v, k0_pay149 p v)
def m2b (p d : BitVec 32) (v : FVec F S4x256x128 .bf16) := (k0_pay155 d (m2a p v).1 (m2a p v).2, k0_pay156 d (m2a p v).1 (m2a p v).2)
/-- The merge of four blocks. -/
def merge2 (p d : BitVec 32) (v : FVec F S4x256x128 .bf16) : FVec F S4x256x128 .bf16 := k0_pay157 d (m2b p d v).1 (m2b p d v).2

def m3a (d : BitVec 32) (v : FVec F S8x256x128 .bf16) := (k0_pay160 d (k0_pay158 v) (k0_pay159 v), k0_pay161 d (k0_pay158 v) (k0_pay159 v))
def m3b (d : BitVec 32) (v : FVec F S8x256x128 .bf16) := (k0_pay162 d (m3a d v).1 (m3a d v).2, k0_pay163 d (m3a d v).1 (m3a d v).2)
/-- The merge of eight blocks. -/
def merge3 (d : BitVec 32) (v : FVec F S8x256x128 .bf16) : FVec F S8x256x128 .bf16 := k0_pay164 d (m3b d v).1 (m3b d v).2

def f1 (p : BitVec 32) (v : FVec F S16x256x128 .bf16) := k0_pay169 p (k0_pay166 p v) (k0_pay167 p v) (k0_pay168 p v)
def f2 (p : BitVec 32) (v : FVec F S16x256x128 .bf16) := k0_pay170 (f1 p v)
/-- The last round: the device's own 256 rows of the merge of all sixteen blocks. -/
def final (p : BitVec 32) (v : FVec F S16x256x128 .bf16) : FVec F S256x128 .f32 := k0_pay1 (k0_pay176 (f2 p v)) (k0_pay177 (f2 p v))

/-! ## The line of effects -/

/-- The four semaphores of a family, one by one. -/
abbrev sem0 (s : DmaSems sig S4) : DmaSem sig := ((s.slice (Rect.unit (s := S4) ![0] S1.size inb_S4_S1_0)).squeeze S_ squeezes_S1_S_).sem
abbrev sem1 (s : DmaSems sig S4) : DmaSem sig := ((s.slice (Rect.unit (s := S4) ![1] S1.size inb_S4_S1_1)).squeeze S_ squeezes_S1_S_).sem
abbrev sem2 (s : DmaSems sig S4) : DmaSem sig := ((s.slice (Rect.unit (s := S4) ![2] S1.size inb_S4_S1_2)).squeeze S_ squeezes_S1_S_).sem
abbrev sem3 (s : DmaSems sig S4) : DmaSem sig := ((s.slice (Rect.unit (s := S4) ![3] S1.size inb_S4_S1_3)).squeeze S_ squeezes_S1_S_).sem

/-- The barrier semaphore. -/
abbrev barS : Sem sig := (SemArray.scalar (sig.barrier 0 rfl) : Sems sig S_).sem

abbrev sl1 (b : Memref sig .tc .vmem S16x256x128 .bf16) (c : Dev nD) : Memref sig .tc .vmem S1x256x128 .bf16 :=
  b.slice (Rect.unit (s := S16x256x128) (k0_off2 c) S1x256x128.size (k0_off2_inb c)) (fun _ => rfl)
abbrev sl2 (b : Memref sig .tc .vmem S16x256x128 .bf16) (c : Dev nD) : Memref sig .tc .vmem S2x256x128 .bf16 :=
  b.slice (Rect.unit (s := S16x256x128) (k0_off4 c) S2x256x128.size (k0_off4_inb c)) (fun _ => rfl)
abbrev sl3 (b : Memref sig .tc .vmem S16x256x128 .bf16) (c : Dev nD) : Memref sig .tc .vmem S4x256x128 .bf16 :=
  b.slice (Rect.unit (s := S16x256x128) (k0_off6 c) S4x256x128.size (k0_off6_inb c)) (fun _ => rfl)
abbrev sl4 (b : Memref sig .tc .vmem S16x256x128 .bf16) (c : Dev nD) : Memref sig .tc .vmem S8x256x128 .bf16 :=
  b.slice (Rect.unit (s := S16x256x128) (k0_off8 c) S8x256x128.size (k0_off8_inb c)) (fun _ => rfl)

/-- The rectangles of the loads and stores of the scratch buffer. -/
abbrev q0 (c : Dev nD) : Rect S16x256x128 := Rect.unit (s := S16x256x128) (k0_off1 c) S1x256x128.size (k0_off1_inb c)
abbrev q1 (c : Dev nD) : Rect S16x256x128 := Rect.unit (s := S16x256x128) (k0_off3 c) S2x256x128.size (k0_off3_inb c)
abbrev q2 (c : Dev nD) : Rect S16x256x128 := Rect.unit (s := S16x256x128) (k0_off5 c) S4x256x128.size (k0_off5_inb c)
abbrev q3 (c : Dev nD) : Rect S16x256x128 := Rect.unit (s := S16x256x128) (k0_off7 c) S8x256x128.size (k0_off7_inb c)
abbrev q4 : Rect S16x256x128 := Rect.unit (s := S16x256x128) ![0, 0, 0] S16x256x128.size inb_S16x256x128_S16x256x128_0_0_0
abbrev r0 : Rect S256x128 := Rect.unit (s := S256x128) ![0, 0] S256x128.size inb_S256x128_S256x128_0_0

/-- The body as its effects in order. -/
def line (arg0 : Memref sig .tc .vmem S256x128 .f32) (arg1 : Memref sig .tc .vmem S256x128 .f32)
    (b : Memref sig .tc .vmem S16x256x128 .bf16) (hb : b.IsWhole) (s r : DmaSems sig S4) :
    Prog (TpuEff nD τ sig (Elt F) Λ₀ .tc) PUnit := do
  let c : Dev nD ← Prog.lift .deviceId
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semSignalWord (⟨k0_dev4 c, k0_dev4_lt c⟩ : Dev nD) barS 1#32
  semWaitWord barS 4#32
  let x : Vec F S256x128 .f32 ← Prog.lift (.load arg0 r0.toLoadRect (View.loadsAt_vmem h_S256x128))
  let _ : Vec F S1x256x128 .bf16 ← Prog.lift (.load b (q0 c).toLoadRect (View.loadsAt_vmem h_S1x256x128))
  Prog.lift (.store b (q0 c) (localSort (bit0 c) x) Finset.univ (View.stores_vmem h_S1x256x128 (hb.storeExact_slice rfl _ (k0_off1_packedbf16 c)) (fun _ => rfl)) (.inl rfl))
  Prog.lift (.enqueueDma (sl1 b c) (.remote (Dev.tc (⟨k0_dev5 c, k0_dev5_lt c⟩ : Dev nD)) (sl1 b c) (.dma (sem0 s))) (.dma (sem0 r)) (hb.wordExact_slice rfl _ (k0_off2_wordsbf16 c)) (hb.wordExact_slice rfl _ (k0_off2_wordsbf16 c)) ⟨⟨rfl, Or.inl rfl⟩, trivial⟩)
  Prog.lift (.waitDma2 (sem0 s) (sl1 b c) (sl1 b c) (hb.wordExact_slice rfl _ (k0_off2_wordsbf16 c)) (hb.wordExact_slice rfl _ (k0_off2_wordsbf16 c)))
  Prog.lift (.waitDma2 (sem0 r) (sl1 b c) (sl1 b c) (hb.wordExact_slice rfl _ (k0_off2_wordsbf16 c)) (hb.wordExact_slice rfl _ (k0_off2_wordsbf16 c)))
  let v1 : Vec F S2x256x128 .bf16 ← Prog.lift (.load b (q1 c).toLoadRect (View.loadsAt_vmem h_S2x256x128))
  let _ : Vec F S2x256x128 .bf16 ← Prog.lift (.load b (q1 c).toLoadRect (View.loadsAt_vmem h_S2x256x128))
  Prog.lift (.store b (q1 c) (merge1 (bit1 c) v1) Finset.univ (View.stores_vmem h_S2x256x128 (hb.storeExact_slice rfl _ (k0_off3_packedbf16 c)) (fun _ => rfl)) (.inl rfl))
  Prog.lift (.enqueueDma (sl2 b c) (.remote (Dev.tc (⟨k0_dev6 c, k0_dev6_lt c⟩ : Dev nD)) (sl2 b c) (.dma (sem1 s))) (.dma (sem1 r)) (hb.wordExact_slice rfl _ (k0_off4_wordsbf16 c)) (hb.wordExact_slice rfl _ (k0_off4_wordsbf16 c)) ⟨⟨rfl, Or.inl rfl⟩, trivial⟩)
  Prog.lift (.waitDma2 (sem1 s) (sl2 b c) (sl2 b c) (hb.wordExact_slice rfl _ (k0_off4_wordsbf16 c)) (hb.wordExact_slice rfl _ (k0_off4_wordsbf16 c)))
  Prog.lift (.waitDma2 (sem1 r) (sl2 b c) (sl2 b c) (hb.wordExact_slice rfl _ (k0_off4_wordsbf16 c)) (hb.wordExact_slice rfl _ (k0_off4_wordsbf16 c)))
  let v2 : Vec F S4x256x128 .bf16 ← Prog.lift (.load b (q2 c).toLoadRect (View.loadsAt_vmem h_S4x256x128))
  let _ : Vec F S4x256x128 .bf16 ← Prog.lift (.load b (q2 c).toLoadRect (View.loadsAt_vmem h_S4x256x128))
  Prog.lift (.store b (q2 c) (merge2 (pos c) (bit2 c) v2) Finset.univ (View.stores_vmem h_S4x256x128 (hb.storeExact_slice rfl _ (k0_off5_packedbf16 c)) (fun _ => rfl)) (.inl rfl))
  Prog.lift (.enqueueDma (sl3 b c) (.remote (Dev.tc (⟨k0_dev7 c, k0_dev7_lt c⟩ : Dev nD)) (sl3 b c) (.dma (sem2 s))) (.dma (sem2 r)) (hb.wordExact_slice rfl _ (k0_off6_wordsbf16 c)) (hb.wordExact_slice rfl _ (k0_off6_wordsbf16 c)) ⟨⟨rfl, Or.inl rfl⟩, trivial⟩)
  Prog.lift (.waitDma2 (sem2 s) (sl3 b c) (sl3 b c) (hb.wordExact_slice rfl _ (k0_off6_wordsbf16 c)) (hb.wordExact_slice rfl _ (k0_off6_wordsbf16 c)))
  Prog.lift (.waitDma2 (sem2 r) (sl3 b c) (sl3 b c) (hb.wordExact_slice rfl _ (k0_off6_wordsbf16 c)) (hb.wordExact_slice rfl _ (k0_off6_wordsbf16 c)))
  let v3 : Vec F S8x256x128 .bf16 ← Prog.lift (.load b (q3 c).toLoadRect (View.loadsAt_vmem h_S8x256x128))
  let _ : Vec F S8x256x128 .bf16 ← Prog.lift (.load b (q3 c).toLoadRect (View.loadsAt_vmem h_S8x256x128))
  Prog.lift (.store b (q3 c) (merge3 (bit3 c) v3) Finset.univ (View.stores_vmem h_S8x256x128 (hb.storeExact_slice rfl _ (k0_off7_packedbf16 c)) (fun _ => rfl)) (.inl rfl))
  Prog.lift (.enqueueDma (sl4 b c) (.remote (Dev.tc (⟨k0_dev8 c, k0_dev8_lt c⟩ : Dev nD)) (sl4 b c) (.dma (sem3 s))) (.dma (sem3 r)) (hb.wordExact_slice rfl _ (k0_off8_wordsbf16 c)) (hb.wordExact_slice rfl _ (k0_off8_wordsbf16 c)) ⟨⟨rfl, Or.inl rfl⟩, trivial⟩)
  Prog.lift (.waitDma2 (sem3 s) (sl4 b c) (sl4 b c) (hb.wordExact_slice rfl _ (k0_off8_wordsbf16 c)) (hb.wordExact_slice rfl _ (k0_off8_wordsbf16 c)))
  Prog.lift (.waitDma2 (sem3 r) (sl4 b c) (sl4 b c) (hb.wordExact_slice rfl _ (k0_off8_wordsbf16 c)) (hb.wordExact_slice rfl _ (k0_off8_wordsbf16 c)))
  let v4 : Vec F S16x256x128 .bf16 ← Prog.lift (.load b q4.toLoadRect (View.loadsAt_vmem h_S16x256x128))
  let _ : Vec F S256x128 .f32 ← Prog.lift (.load arg1 r0.toLoadRect (View.loadsAt_vmem h_S256x128))
  Prog.lift (.store arg1 r0 (final (pos c) v4) Finset.univ (View.stores_vmem_bits_univ h_S256x128 rfl) (.inl rfl))
  pure ⟨⟩

set_option maxRecDepth 65536 in
/-- The printed body is the line of its effects. -/
theorem body_eq_line (arg0 : Memref sig .tc .vmem S256x128 .f32) (h0 : arg0.IsWhole) (arg1 : Memref sig .tc .vmem S256x128 .f32) (h1 : arg1.IsWhole)
    (b : Memref sig .tc .vmem S16x256x128 .bf16) (hb : b.IsWhole) (s r : DmaSems sig S4) :
    cc0_body_skel (F := F) arg0 h0 arg1 h1 b hb s r = line arg0 arg1 b hb s r := by
  chain_rfl

end Cert.KernelIdeal.Sort

end
-- ==== Proof.GeomIdeal.lean ====
/-
# `KernelIdeal`: partners, blocks of slots, semaphores

Round `j` of the kernel pairs device `c` with the device whose number differs in bit `j`. Before round `j` a device holds, in
its scratch buffer, the slots of its block of `2 ^ j` devices; in the round it sends them to its partner and receives the
partner's. Here: the partners, the blocks of slots as sets of buffer elements, the printed rectangles as these sets, the
semaphores.
-/
module

public import proofs.«01_k».proof.Proof.FlatIdeal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Sort

open Cert.KernelIdeal Cert.KernelIdeal.Gen
open Idealize.ShloMosaic Idealize.ShloMosaic.TcCoe
open Idealize.SL.Sem

variable {F : FTy → Type} [FloatOps F]

/-! ## Partners -/

set_option backward.proofsInPublic true in
/-- The partner of device `c` in round `j`: bit `j` of its number flipped. -/
def pt (j : Fin 4) (c : Dev nD) : Dev nD := ⟨(c.val ^^^ 2 ^ j.val) % 16, Nat.mod_lt _ (by decide)⟩

/-- The partner's partner is the device itself. -/
theorem pt_pt (j : Fin 4) (c : Dev nD) : pt j (pt j c) = c := by revert j c; decide +kernel

/-- Partnership as a permutation of the devices. -/
def ptEquiv (j : Fin 4) : Dev nD ≃ Dev nD := ⟨pt j, pt j, pt_pt j, pt_pt j⟩

/-- `d` is `c`'s partner exactly when `c` is `d`'s. -/
theorem pt_eq_iff (j : Fin 4) (c d : Dev nD) : pt j d = c ↔ d = pt j c :=
  ⟨fun h => by rw [← h, pt_pt], fun h => by rw [h, pt_pt]⟩

/-- The four signals and the four transfers name the four partners. -/
theorem dev1_eq (c : Dev nD) : (⟨k0_dev1 c, k0_dev1_lt c⟩ : Dev nD) = pt 0 c := Fin.ext (by revert c; decide +kernel)
/-- Signal 2 goes to the partner of round 1. -/
theorem dev2_eq (c : Dev nD) : (⟨k0_dev2 c, k0_dev2_lt c⟩ : Dev nD) = pt 1 c := Fin.ext (by revert c; decide +kernel)
/-- Signal 3 goes to the partner of round 2. -/
theorem dev3_eq (c : Dev nD) : (⟨k0_dev3 c, k0_dev3_lt c⟩ : Dev nD) = pt 2 c := Fin.ext (by revert c; decide +kernel)
/-- Signal 4 goes to the partner of round 3. -/
theorem dev4_eq (c : Dev nD) : (⟨k0_dev4 c, k0_dev4_lt c⟩ : Dev nD) = pt 3 c := Fin.ext (by revert c; decide +kernel)
/-- The transfer of round 0 goes to the partner of that round. -/
theorem dev5_eq (c : Dev nD) : (⟨k0_dev5 c, k0_dev5_lt c⟩ : Dev nD) = pt 0 c := Fin.ext (by revert c; decide +kernel)
/-- The transfer of round 1 goes to the partner of that round. -/
theorem dev6_eq (c : Dev nD) : (⟨k0_dev6 c, k0_dev6_lt c⟩ : Dev nD) = pt 1 c := Fin.ext (by revert c; decide +kernel)
/-- The transfer of round 2 goes to the partner of that round. -/
theorem dev7_eq (c : Dev nD) : (⟨k0_dev7 c, k0_dev7_lt c⟩ : Dev nD) = pt 2 c := Fin.ext (by revert c; decide +kernel)
/-- The transfer of round 3 goes to the partner of that round. -/
theorem dev8_eq (c : Dev nD) : (⟨k0_dev8 c, k0_dev8_lt c⟩ : Dev nD) = pt 3 c := Fin.ext (by revert c; decide +kernel)

/-! ## Blocks of slots -/

/-- The scratch buffer's contents. -/
abbrev Scr (F : FTy → Type) : Type := (cc0_scratch0 : Ref sig .tc).ty.Contents (Elt F)

/-- The elements of the slots of `c`'s block of `2 ^ j` devices. -/
def blk (j : ℕ) (c : Dev nD) : Finset S16x256x128.Idx := Finset.univ.filter fun i => (i 0).val / 2 ^ j = c.val / 2 ^ j

/-- A slot is in a block if the device of its number is. -/
theorem mem_blk {j : ℕ} {c : Dev nD} {i : S16x256x128.Idx} : i ∈ blk j c ↔ (i 0).val / 2 ^ j = c.val / 2 ^ j := by
  unfold blk; rw [Finset.mem_filter]; exact ⟨fun h => h.2, fun h => ⟨Finset.mem_univ _, h⟩⟩

/-- There are sixteen slots. -/
theorem slot_lt (i : S16x256x128.Idx) : (i 0).val < 16 := (i 0).isLt

/-- The slot numbers of a double block are those of its two halves. -/
theorem union_fact : ∀ (j : Fin 4) (c s : Fin 16), s.val / 2 ^ (j.val + 1) = c.val / 2 ^ (j.val + 1) ↔
    (s.val / 2 ^ j.val = c.val / 2 ^ j.val ∨ s.val / 2 ^ j.val = (pt j c).val / 2 ^ j.val) := by decide +kernel
/-- The slot numbers of the two halves are different. -/
theorem disjoint_fact : ∀ (j : Fin 4) (c s : Fin 16), s.val / 2 ^ j.val = c.val / 2 ^ j.val → ¬ s.val / 2 ^ j.val = (pt j c).val / 2 ^ j.val := by
  decide +kernel

/-- A block of twice the size is a block and its partner's. -/
theorem blk_succ (j : Fin 4) (c : Dev nD) : blk (j.val + 1) c = blk j.val c ∪ blk j.val (pt j c) := by
  ext i
  rw [Finset.mem_union, mem_blk, mem_blk, mem_blk]
  exact union_fact j c ⟨(i 0).val, slot_lt i⟩

/-- A block and its partner's share no slot. -/
theorem blk_disjoint (j : Fin 4) (c : Dev nD) : Disjoint (blk j.val c) (blk j.val (pt j c)) := by
  rw [Finset.disjoint_left]
  intro i h1 h2
  rw [mem_blk] at h1 h2
  exact disjoint_fact j c ⟨(i 0).val, slot_lt i⟩ h1 h2

/-- All sixteen slots are one block. -/
theorem blk_four (c : Dev nD) : blk 4 c = Finset.univ := by
  ext i
  rw [mem_blk, Nat.div_eq_of_lt (show (i 0).val < 2 ^ 4 from slot_lt i), Nat.div_eq_of_lt (show c.val < 2 ^ 4 from c.isLt)]
  exact ⟨fun _ => Finset.mem_univ _, fun _ => rfl⟩

/-! ## The printed rectangles -/

/-- Where the printed rectangle begins: at the first slot of the device's block. -/
theorem off2_eq (c : Dev nD) : k0_off2 c = ![c.val, 0, 0] := by revert c; decide +kernel
/-- Where the printed rectangle begins: at the first slot of the device's block. -/
theorem off3_eq (c : Dev nD) : k0_off3 c = ![c.val / 2 * 2, 0, 0] := by revert c; decide +kernel
/-- Where the printed rectangle begins: at the first slot of the device's block. -/
theorem off4_eq (c : Dev nD) : k0_off4 c = ![c.val / 2 * 2, 0, 0] := by revert c; decide +kernel
/-- Where the printed rectangle begins: at the first slot of the device's block. -/
theorem off5_eq (c : Dev nD) : k0_off5 c = ![c.val / 4 * 4, 0, 0] := by revert c; decide +kernel
/-- Where the printed rectangle begins: at the first slot of the device's block. -/
theorem off6_eq (c : Dev nD) : k0_off6 c = ![c.val / 4 * 4, 0, 0] := by revert c; decide +kernel
/-- Where the printed rectangle begins: at the first slot of the device's block. -/
theorem off7_eq (c : Dev nD) : k0_off7 c = ![c.val / 8 * 8, 0, 0] := by revert c; decide +kernel
/-- Where the printed rectangle begins: at the first slot of the device's block. -/
theorem off8_eq (c : Dev nD) : k0_off8 c = ![c.val / 8 * 8, 0, 0] := by revert c; decide +kernel

/-- A rectangle of `n` whole slots from slot `o`: its elements, by slot. -/
theorem mem_slots (off : Fin 3 → ℕ) (o n : ℕ) (ho : off = ![o, 0, 0]) (sz : Fin 3 → ℕ) (hs : sz = ![n, 256, 128]) (inb)
    (i : S16x256x128.Idx) : i ∈ (Rect.unit (s := S16x256x128) off sz inb).set ↔ o ≤ (i 0).val ∧ (i 0).val < o + n := by
  subst ho hs
  rw [Rect.mem_set_unit]
  constructor
  · intro h; exact h 0
  · intro h a
    fin_cases a
    · exact h
    · exact ⟨Nat.zero_le _, by have := (i 1).isLt; show (i 1).val < 0 + 256; simp at this ⊢; exact this⟩
    · exact ⟨Nat.zero_le _, by have := (i 2).isLt; show (i 2).val < 0 + 128; simp at this ⊢; exact this⟩

/-- A printed rectangle that begins at the first slot of a block and is as long is the block. -/
theorem rect_blk (off : Fin 3 → ℕ) (c : Dev nD) (j n : ℕ) (hn : n = 2 ^ j) (ho : off = ![c.val / n * n, 0, 0]) (sz : Fin 3 → ℕ)
    (hs : sz = ![n, 256, 128]) (inb) : (Rect.unit (s := S16x256x128) off sz inb).set = blk j c := by
  ext i
  rw [mem_slots off _ n ho sz hs inb i, mem_blk, ← hn]
  have hpos : 0 < n := by rw [hn]; exact Nat.two_pow_pos j
  rw [← Nat.le_div_iff_mul_le hpos, show c.val / n * n + n = (c.val / n + 1) * n by rw [Nat.add_mul, Nat.one_mul], ← Nat.div_lt_iff_lt_mul hpos]
  omega

/-- The slots stored before round 0 are the device's block of 1. -/
theorem q0_set (c : Dev nD) : (q0 c).set = blk 0 c := rect_blk _ c 0 1 rfl (by rw [k0_off1_eq, Nat.div_one, Nat.mul_one]) _ rfl _
/-- The slots stored before round 1 are the device's block of 2. -/
theorem q1_set (c : Dev nD) : (q1 c).set = blk 1 c := rect_blk _ c 1 2 rfl (off3_eq c) _ rfl _
/-- The slots stored before round 2 are the device's block of 4. -/
theorem q2_set (c : Dev nD) : (q2 c).set = blk 2 c := rect_blk _ c 2 4 rfl (off5_eq c) _ rfl _
/-- The slots stored before round 3 are the device's block of 8. -/
theorem q3_set (c : Dev nD) : (q3 c).set = blk 3 c := rect_blk _ c 3 8 rfl (off7_eq c) _ rfl _

/-- The rectangles the transfers of rounds 0 to 3 name. -/
abbrev t0 (c : Dev nD) : Rect S16x256x128 := Rect.unit (s := S16x256x128) (k0_off2 c) S1x256x128.size (k0_off2_inb c)
abbrev t1 (c : Dev nD) : Rect S16x256x128 := Rect.unit (s := S16x256x128) (k0_off4 c) S2x256x128.size (k0_off4_inb c)
abbrev t2 (c : Dev nD) : Rect S16x256x128 := Rect.unit (s := S16x256x128) (k0_off6 c) S4x256x128.size (k0_off6_inb c)
abbrev t3 (c : Dev nD) : Rect S16x256x128 := Rect.unit (s := S16x256x128) (k0_off8 c) S8x256x128.size (k0_off8_inb c)
/-- The slots the transfer of round 0 names are the device's block of 1. -/
theorem t0_set (c : Dev nD) : (t0 c).set = blk 0 c := rect_blk _ c 0 1 rfl (by rw [off2_eq, Nat.div_one, Nat.mul_one]) _ rfl _
/-- The slots the transfer of round 1 names are the device's block of 2. -/
theorem t1_set (c : Dev nD) : (t1 c).set = blk 1 c := rect_blk _ c 1 2 rfl (off4_eq c) _ rfl _
/-- The slots the transfer of round 2 names are the device's block of 4. -/
theorem t2_set (c : Dev nD) : (t2 c).set = blk 2 c := rect_blk _ c 2 4 rfl (off6_eq c) _ rfl _
/-- The slots the transfer of round 3 names are the device's block of 8. -/
theorem t3_set (c : Dev nD) : (t3 c).set = blk 3 c := rect_blk _ c 3 8 rfl (off8_eq c) _ rfl _

/-! ## The buffers and the semaphores -/

abbrev xM : Memref sig .tc .vmem S256x128 .f32 := Memref.whole cc0_stg0_0
abbrev oM : Memref sig .tc .vmem S256x128 .f32 := Memref.whole cc0_stg1_0
abbrev bM : Memref sig .tc .vmem S16x256x128 .bf16 := Memref.whole cc0_scratch0

/-- The send and receive semaphores of round `j`. -/
def sendS (j : Fin 4) : DmaSem sig := match j with
  | 0 => sem0 cc0_scratch1 | 1 => sem1 cc0_scratch1 | 2 => sem2 cc0_scratch1 | 3 => sem3 cc0_scratch1
def recvS (j : Fin 4) : DmaSem sig := match j with
  | 0 => sem0 cc0_scratch2 | 1 => sem1 cc0_scratch2 | 2 => sem2 cc0_scratch2 | 3 => sem3 cc0_scratch2

/-- What the transfer of round `j` credits. -/
def N (j : Fin 4) : ℕ := match j with
  | 0 => (sl1 bM 0).view.dmaCredit | 1 => (sl2 bM 0).view.dmaCredit | 2 => (sl3 bM 0).view.dmaCredit | 3 => (sl4 bM 0).view.dmaCredit

/-- Every transfer credits something. -/
theorem N_pos (j : Fin 4) : 0 < N j := by
  fin_cases j
  · exact View.dmaCredit_pos _ (by decide)
  · exact View.dmaCredit_pos _ (by decide)
  · exact View.dmaCredit_pos _ (by decide)
  · exact View.dmaCredit_pos _ (by decide)

/-- Each round has its own semaphore. -/
theorem sendS_inj : Function.Injective sendS := by intro i j; revert i j; decide +kernel
/-- Each round has its own semaphore. -/
theorem recvS_inj : Function.Injective recvS := by intro i j; revert i j; decide +kernel
/-- A send semaphore is no receive semaphore. -/
theorem send_ne_recv (i j : Fin 4) : sendS i ≠ recvS j := by revert i j; decide +kernel

/-! ## What each window and buffer of the launch is -/

/-- Offsets that are zero on every axis. -/
theorem hz2 : (![0, 0] : Fin 2 → Nat) = fun _ => 0 := funext fun a => by fin_cases a <;> rfl
/-- Offsets that are zero on every axis. -/
theorem hz3 : (![0, 0, 0] : Fin 3 → Nat) = fun _ => 0 := funext fun a => by fin_cases a <;> rfl

/-- Loading the staged operand, or the whole scratch buffer, reads its contents; storing the result leaves what is stored. -/
theorem read_x (f : (cc0_stg0_0 : Ref sig .tc).ty.Contents (Elt F)) : xM.view.readAt (Elt F) r0.toLoadRect f = f :=
  Memref.readAt_unit_zero (Elt F) cc0_stg0_0 hz2 _ f
/-- Loading the whole scratch buffer reads its contents. -/
theorem read_all (f : Scr F) : bM.view.readAt (Elt F) q4.toLoadRect f = f := Memref.readAt_unit_zero (Elt F) cc0_scratch0 hz3 _ f
/-- Storing the whole result leaves what is stored. -/
theorem write_out (f w : (cc0_stg1_0 : Ref sig .tc).ty.Contents (Elt F)) :
    (oM.access r0 : View sig .tc _ _ _).write (Elt F) f w Finset.univ = w :=
  Memref.write_access_unit_zero_univ (Elt F) cc0_stg1_0 hz2 _ f w

end Cert.KernelIdeal.Sort

end
-- ==== Proof.ProtoIdeal.lean ====
/-
# `KernelIdeal`: what the buffers hold, and the schedule of the semaphores

What each device's scratch buffer holds after each round, and the schedule: at the barrier each of the four partners hands
over the slots it is going to receive into; the send semaphore of a round returns the slots sent; the receive semaphore of a
round brings the partner's slots.
-/
module

public import proofs.«01_k».proof.Proof.GeomIdeal

@[expose] public section

noncomputable section

namespace Cert.KernelIdeal.Sort

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `c`'s block of the operand, as staged. -/
def xstg (c : Dev nD) : (cc0_stg0_0 : Ref sig .tc).ty.Contents (Elt F) :=
  (win0_0.blk (0 : Fin 1)).view.read (Elt F) ((s₀ m ρ).mem ((c : Thread nD τ).loc main_arg0))

/-- Reading and writing a rectangle of the scratch buffer. -/
abbrev get (r : Rect S16x256x128) (f : Scr F) : r.shape.Idx → Elt F .bf16 := bM.view.readAt (Elt F) r.toLoadRect f
abbrev put (r : Rect S16x256x128) (f : Scr F) (w : r.shape.Idx → Elt F .bf16) : Scr F :=
  (bM.access r : View sig .tc _ _ _).write (Elt F) f w Finset.univ

/-- After writing a rectangle, what it holds does not depend on what was there. -/
theorem put_congr (r : Rect S16x256x128) (f g : Scr F) (w : r.shape.Idx → Elt F .bf16) (i : S16x256x128.Idx) (hi : i ∈ r.set) :
    put r f w i = put r g w i := by
  have h : i ∈ (bM.access r : View sig .tc _ _ _).set := by rw [View.set_slice_whole]; exact hi
  obtain ⟨x, _, rfl⟩ := Finset.mem_map.mp h
  exact (View.write_emb_of_mem (v := (bM.access r : View sig .tc _ _ _)) f w (Finset.mem_univ x)).trans
    (View.write_emb_of_mem (v := (bM.access r : View sig .tc _ _ _)) g w (Finset.mem_univ x)).symm

/-- Two devices' contents joined after round `j`: the partner's block from the partner. -/
def join (j : Fin 4) (f : Dev nD → Scr F) (c : Dev nD) : Scr F := (blk j.val (pt j c)).piecewise (f (pt j c)) (f c)

/-- The slots of `c`'s block as sent in rounds 0 to 3, and as held after them. -/
def B0 (c : Dev nD) : Scr F :=
  put (q0 c) (fun _ => localSort (bit0 c) (xstg m ρ c) (fun a => ⟨0, by fin_cases a <;> decide⟩)) (localSort (bit0 c) (xstg m ρ c))
def J0 : Dev nD → Scr F := join 0 (B0 m ρ)
def B1 (c : Dev nD) : Scr F := put (q1 c) (J0 m ρ c) (merge1 (bit1 c) (get (q1 c) (J0 m ρ c)))
def J1 : Dev nD → Scr F := join 1 (B1 m ρ)
def B2 (c : Dev nD) : Scr F := put (q2 c) (J1 m ρ c) (merge2 (pos c) (bit2 c) (get (q2 c) (J1 m ρ c)))
def J2 : Dev nD → Scr F := join 2 (B2 m ρ)
def B3 (c : Dev nD) : Scr F := put (q3 c) (J2 m ρ c) (merge3 (bit3 c) (get (q3 c) (J2 m ρ c)))
def J3 : Dev nD → Scr F := join 3 (B3 m ρ)
def B (j : Fin 4) : Dev nD → Scr F := match j with | 0 => B0 m ρ | 1 => B1 m ρ | 2 => B2 m ρ | 3 => B3 m ρ

/-- The kernel's result on device `c`. -/
def outAt (c : Dev nD) : (cc0_stg1_0 : Ref sig .tc).ty.Contents (Elt F) := final (pos c) (J3 m ρ c)

/-- Elements `S` of device `c`'s scratch buffer, holding `f`. -/
def scr (c : Dev nD) (S : Finset S16x256x128.Idx) (f : Scr F) : sProp 𝕄 :=
  ((c : Thread nD τ).loc cc0_scratch0) ↦[S]{fullShare} f

omit [FloatOps F] in
instance scr_storable (c : Dev nD) (S) (f) : BI.Storable (upEmb : UEmb _ 𝕄) (scr (F := F) c S f) := by unfold scr; infer_instance

omit [FloatOps F] in
/-- A double block comes apart into its halves, and joins from them. -/
theorem scr_split (j : Fin 4) (c : Dev nD) (f : Scr F) : scr c (blk (j.val + 1) c) f ⊢ iprop(scr c (blk j.val c) f ∗ scr c (blk j.val (pt j c)) f) := by
  unfold scr; rw [blk_succ]; exact (pointsTo_union (blk_disjoint j c)).1
omit [FloatOps F] in
/-- Two halves held by different contents join to a double block. -/
theorem scr_join (j : Fin 4) (c : Dev nD) (f : Dev nD → Scr F) :
    iprop(scr c (blk j.val c) (f c) ∗ scr c (blk j.val (pt j c)) (f (pt j c))) ⊢ scr c (blk (j.val + 1) c) (join j f c) := by
  unfold scr join; rw [blk_succ]; exact pointsTo_join (blk_disjoint j c)
omit [FloatOps F] in
/-- Only the contents at the elements owned matter. -/
theorem scr_congr (c : Dev nD) (S) (f g : Scr F) (h : ∀ i ∈ S, f i = g i) : scr c S f = scr c S g := by
  unfold scr; exact pointsTo_congr h

/-! ## The cells and the schedule -/

abbrev barCell (c : Dev nD) : GSem nD τ sig := ((c : Thread nD τ), .reg barS)
abbrev sendCell (j : Fin 4) (c : Dev nD) : GSem nD τ sig := ((c : Thread nD τ), .dma (sendS j))
abbrev recvCell (j : Fin 4) (c : Dev nD) : GSem nD τ sig := ((c : Thread nD τ), .dma (recvS j))

/-- The kernel's own (scoped) semaphores; all of them with the barrier. -/
abbrev osem : Fin 8 → SemLoc sig := fun
  | 0 => .dma (sendS 0) | 1 => .dma (sendS 1) | 2 => .dma (sendS 2) | 3 => .dma (sendS 3)
  | 4 => .dma (recvS 0) | 5 => .dma (recvS 1) | 6 => .dma (recvS 2) | 7 => .dma (recvS 3)
abbrev csem : Fin 9 → SemLoc sig := fun
  | 0 => .reg barS
  | 1 => .dma (sendS 0) | 2 => .dma (sendS 1) | 3 => .dma (sendS 2) | 4 => .dma (sendS 3)
  | 5 => .dma (recvS 0) | 6 => .dma (recvS 1) | 7 => .dma (recvS 2) | 8 => .dma (recvS 3)
abbrev kcell (ck : Dev nD × Fin 9) : GSem nD τ sig := ((ck.1 : Thread nD τ), csem ck.2)
/-- The index of a round's send and receive cell. -/
def ks (j : Fin 4) : Fin 9 := match j with | 0 => 1 | 1 => 2 | 2 => 3 | 3 => 4
def kr (j : Fin 4) : Fin 9 := match j with | 0 => 5 | 1 => 6 | 2 => 7 | 3 => 8
/-- The numbered cell of a round is its semaphore. -/
theorem kcell_ks (j : Fin 4) (c : Dev nD) : kcell (c, ks j) = sendCell j c := by fin_cases j <;> rfl
/-- The numbered cell of a round is its semaphore. -/
theorem kcell_kr (j : Fin 4) (c : Dev nD) : kcell (c, kr j) = recvCell j c := by fin_cases j <;> rfl

/-- Which semaphores are receive semaphores, which send semaphores, and of which round. -/
def IsRecv (s : SemLoc sig) : Prop := ∃ j, s = .dma (recvS j)
def IsSend (s : SemLoc sig) : Prop := ∃ j, s = .dma (sendS j)
instance (s : SemLoc sig) : Decidable (IsRecv s) := by unfold IsRecv; infer_instance
instance (s : SemLoc sig) : Decidable (IsSend s) := by unfold IsSend; infer_instance
def rd (s : SemLoc sig) : Fin 4 :=
  if s = .dma (sendS 0) ∨ s = .dma (recvS 0) then 0 else if s = .dma (sendS 1) ∨ s = .dma (recvS 1) then 1
  else if s = .dma (sendS 2) ∨ s = .dma (recvS 2) then 2 else 3

/-- The round of a semaphore. -/
theorem rd_send : ∀ j, rd (.dma (sendS j)) = j := by decide +kernel
/-- The round of a semaphore. -/
theorem rd_recv : ∀ j, rd (.dma (recvS j)) = j := by decide +kernel
/-- Which of the two kinds a semaphore is. -/
theorem isRecv_recv (j : Fin 4) : IsRecv (.dma (recvS j)) := ⟨j, rfl⟩
/-- Which of the two kinds a semaphore is. -/
theorem isSend_send (j : Fin 4) : IsSend (.dma (sendS j)) := ⟨j, rfl⟩
/-- Which of the two kinds a semaphore is. -/
theorem not_isRecv_send : ∀ j, ¬ IsRecv (.dma (sendS j)) := by decide +kernel
/-- A transfer's semaphore is not the barrier. -/
theorem send_ne_bar (j : Fin 4) : (SemLoc.dma (sendS j) : SemLoc sig) ≠ .reg barS := fun h => by cases h
/-- A transfer's semaphore is not the barrier. -/
theorem recv_ne_bar (j : Fin 4) : (SemLoc.dma (recvS j) : SemLoc sig) ≠ .reg barS := fun h => by cases h

/-- What partner `j`'s signal hands `c`: the partner's slots of `c`'s block. -/
def barPay (j : Fin 4) (c : Dev nD) : sProp 𝕄 := iprop(∃ f, scr (pt j c) (blk j.val c) f)
/-- What the receive semaphore brings: the partner's block. -/
def recvPay (j : Fin 4) (c : Dev nD) : sProp 𝕄 := scr c (blk j.val (pt j c)) (B m ρ j (pt j c))
/-- What the send semaphore returns: the own block. -/
def sendPay (j : Fin 4) (c : Dev nD) : sProp 𝕄 := scr c (blk j.val c) (B m ρ j c)

omit [FloatOps F] in
instance barPay_storable (j : Fin 4) (c : Dev nD) : BI.Storable (upEmb : UEmb _ 𝕄) (barPay (F := F) j c) := by unfold barPay; infer_instance
instance recvPay_storable (j : Fin 4) (c : Dev nD) : BI.Storable (upEmb : UEmb _ 𝕄) (recvPay m ρ j c) := by unfold recvPay; infer_instance
instance sendPay_storable (j : Fin 4) (c : Dev nD) : BI.Storable (upEmb : UEmb _ 𝕄) (sendPay m ρ j c) := by unfold sendPay; infer_instance

abbrev IsBar (g : GSem nD τ sig) : Prop := g.1.2 = .tc ∧ g.2 = .reg barS
abbrev IsXfer (g : GSem nD τ sig) : Prop := g.1.2 = .tc ∧ (IsSend g.2 ∨ IsRecv g.2)

/-- One round, round 0: a barrier cell has four duties of one unit, one from each partner; a send or receive cell one duty of
    its transfer's credit. -/
def sched : Rounds.Schedule (GSem nD τ sig) (Fin 4) 𝕄 where
  duties g r := if r = 0 ∧ IsBar g then Finset.univ else if r = 0 ∧ IsXfer g then {0} else ∅
  unitless _ := False
  amount g _ _ := if g.2 = .reg barS then 1 else N (rd g.2)
  payload g _ d :=
    if g.2 = .reg barS then barPay d g.1.1
    else if IsRecv g.2 then recvPay m ρ (rd g.2) g.1.1
    else if IsSend g.2 then sendPay m ρ (rd g.2) g.1.1
    else iprop(emp)
  amount_pos g _ _ _ := by
    by_cases h : g.2 = .reg barS
    · rw [if_pos h]; exact Nat.one_pos
    · rw [if_neg h]; exact N_pos _

instance sched_payload_storable (g : GSem nD τ sig) (r : ℕ) (d : Fin 4) :
    BI.Storable (upEmb : UEmb _ 𝕄) ((sched (F := F) m ρ).payload g r d) := by
  show BI.Storable upEmb (if g.2 = .reg barS then barPay d g.1.1 else if IsRecv g.2 then recvPay m ρ (rd g.2) g.1.1
    else if IsSend g.2 then sendPay m ρ (rd g.2) g.1.1 else iprop(emp))
  (repeat' split) <;> infer_instance

section Sched
variable (j : Fin 4) (c : Dev nD)

/-- A transfer's cell is no barrier cell. -/
theorem not_bar_send : ¬ IsBar (sendCell j c) := fun h => send_ne_bar j h.2
/-- A transfer's cell is no barrier cell. -/
theorem not_bar_recv : ¬ IsBar (recvCell j c) := fun h => recv_ne_bar j h.2

/-- At the barrier each of the four partners signals. -/
theorem duties_bar : (sched (F := F) m ρ).duties (barCell c) 0 = Finset.univ := by dsimp only [sched]; exact if_pos ⟨rfl, rfl, rfl⟩
/-- A transfer's semaphore is credited once. -/
theorem duties_send : (sched (F := F) m ρ).duties (sendCell j c) 0 = {0} := by
  dsimp only [sched]; rw [if_neg (fun h => not_bar_send j c h.2)]; exact if_pos ⟨rfl, rfl, .inl (isSend_send j)⟩
/-- A transfer's semaphore is credited once. -/
theorem duties_recv : (sched (F := F) m ρ).duties (recvCell j c) 0 = {0} := by
  dsimp only [sched]; rw [if_neg (fun h => not_bar_recv j c h.2)]; exact if_pos ⟨rfl, rfl, .inr (isRecv_recv j)⟩
/-- Nothing is credited a second time. -/
theorem duties_later (g : GSem nD τ sig) : ∀ r, 1 ≤ r → (sched (F := F) m ρ).duties g r = ∅ :=
  fun r hr => by dsimp only [sched]; rw [if_neg fun h => by omega, if_neg fun h => by omega]

/-- How much is credited. -/
theorem amount_bar (d : Fin 4) : (sched (F := F) m ρ).amount (barCell c) 0 d = 1 := by dsimp only [sched]; exact if_pos rfl
/-- How much is credited. -/
theorem amount_send (d : Fin 4) : (sched (F := F) m ρ).amount (sendCell j c) 0 d = N j := by
  dsimp only [sched]; rw [if_neg (send_ne_bar j), rd_send]
/-- How much is credited. -/
theorem amount_recv (d : Fin 4) : (sched (F := F) m ρ).amount (recvCell j c) 0 d = N j := by
  dsimp only [sched]; rw [if_neg (recv_ne_bar j), rd_recv]

/-- How much a wait expects in all. -/
theorem expect_bar : (sched (F := F) m ρ).expect (barCell c) 0 = 4 := by
  unfold Schedule.expect Schedule.amountOf
  rw [duties_bar, Finset.sum_congr rfl fun d _ => amount_bar m ρ c d, Finset.sum_const, Finset.card_univ, Fintype.card_fin, smul_eq_mul]
/-- How much a wait expects in all. -/
theorem expect_send : (sched (F := F) m ρ).expect (sendCell j c) 0 = N j := by
  unfold Schedule.expect Schedule.amountOf; rw [duties_send, Finset.sum_singleton, amount_send]
/-- How much a wait expects in all. -/
theorem expect_recv : (sched (F := F) m ρ).expect (recvCell j c) 0 = N j := by
  unfold Schedule.expect Schedule.amountOf; rw [duties_recv, Finset.sum_singleton, amount_recv]

/-- What a credit hands over. -/
theorem payload_bar (d : Fin 4) : (sched (F := F) m ρ).payload (barCell c) 0 d = barPay d c := by dsimp only [sched]; rw [if_pos rfl]
/-- What a credit hands over. -/
theorem payload_send (d : Fin 4) : (sched (F := F) m ρ).payload (sendCell j c) 0 d = sendPay m ρ j c := by
  dsimp only [sched]; rw [if_neg (send_ne_bar j), if_neg (not_isRecv_send j), if_pos (isSend_send j), rd_send]
/-- What a credit hands over. -/
theorem payload_recv (d : Fin 4) : (sched (F := F) m ρ).payload (recvCell j c) 0 d = recvPay m ρ j c := by
  dsimp only [sched]; rw [if_neg (recv_ne_bar j), if_pos (isRecv_recv j), rd_recv]

omit [FloatOps F] in
/-- Four conjuncts one by one. -/
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- The rest of each cell's round, no duty taken. -/
theorem rest_bar : bigSep ((sched (F := F) m ρ).duties (barCell c) 0 \ ∅) (fun d => (sched (F := F) m ρ).payload (barCell c) 0 d)
    = iprop(barPay 0 c ∗ barPay 1 c ∗ barPay 2 c ∗ barPay 3 c) := by
  rw [Finset.sdiff_empty, duties_bar, bigSep_fin4, payload_bar, payload_bar, payload_bar, payload_bar]
/-- All that a wait on a transfer's semaphore brings. -/
theorem rest_send : bigSep ((sched (F := F) m ρ).duties (sendCell j c) 0 \ ∅) (fun d => (sched (F := F) m ρ).payload (sendCell j c) 0 d) = sendPay m ρ j c := by
  rw [Finset.sdiff_empty, duties_send, bigSep_singleton, payload_send]
/-- All that a wait on a transfer's semaphore brings. -/
theorem rest_recv : bigSep ((sched (F := F) m ρ).duties (recvCell j c) 0 \ ∅) (fun d => (sched (F := F) m ρ).payload (recvCell j c) 0 d) = recvPay m ρ j c := by
  rw [Finset.sdiff_empty, duties_recv, bigSep_singleton, payload_recv]

end Sched

/-! ## What each device owes at launch; the levels -/

/-- The receive credits of the rounds in `l` owed to the partners, and with them the barrier units of the partners in `l`. -/
def owedR (c : Dev nD) : List (Fin 4) → CellTallies nD τ sig Unit
  | [] => 0
  | j :: l => owedR c l + tallyAt (recvCell j (pt j c)) () (N j)
def owedB (c : Dev nD) : List (Fin 4) → CellTallies nD τ sig Unit
  | [] => owedR c [0, 1, 2, 3]
  | j :: l => owedB c l + tallyAt (barCell (pt j c)) () 1
def O₀ (c : Dev nD) : CellTallies nD τ sig Unit := owedB c [0, 1, 2, 3]

def L (g : GSem nD τ sig) : Finset Unit := if g.1.2 = .tc then {()} else ∅
/-- Barrier cells at 1, the receive cells of round `j` at `2 + j`, everything else (staging, send) at 0. -/
def lv (g : GSem nD τ sig) (_ : Unit) : ℕ := if g.2 = .reg barS then 1 else if IsRecv g.2 then 2 + (rd g.2).val else 0

/-- The level of a receive semaphore grows with the round. -/
theorem lv_recv (j : Fin 4) (c : Dev nD) : lv (recvCell j c) () = 2 + j.val := by
  unfold lv; rw [if_neg (recv_ne_bar j), if_pos (isRecv_recv j), rd_recv]
/-- The barrier is below every receive semaphore. -/
theorem lv_bar (c : Dev nD) : lv (barCell c) () = 1 := by unfold lv; rw [if_pos rfl]
/-- Every other semaphore is at the bottom. -/
theorem lv_other (c : Dev nD) (q : DmaSem sig) (hq : ¬ IsRecv (.dma q)) : lv ((c : Thread nD τ), .dma q) () = 0 := by
  unfold lv; rw [if_neg (fun h => by cases h), if_neg hq]

/-- Levels are kept for the cells of the main core only. -/
theorem L_of_ne (g : GSem nD τ sig) (h : g.1.2 ≠ .tc) : L g = ∅ := if_neg h
/-- Each cell of the main core has one level. -/
theorem L_tc (c : Dev nD) (sm : SemLoc sig) : L ((c : Thread nD τ), sm) = {()} := if_pos rfl

/-- What a device owes the receive semaphores: only its partners'. -/
theorem owedR_pos {c : Dev nD} {l : List (Fin 4)} {g : GSem nD τ sig} {u : Unit} (h : 0 < owedR c l g u) : ∃ j ∈ l, g = recvCell j (pt j c) := by
  induction l with
  | nil => exact absurd h (Nat.lt_irrefl 0)
  | cons j l ih =>
    unfold owedR at h
    rw [Pi.add_apply, Finsupp.add_apply, tallyAt_apply] at h
    by_cases h' : g = recvCell j (pt j c) ∧ u = ()
    · exact ⟨j, List.mem_cons_self, h'.1⟩
    · rw [if_neg h', Nat.add_zero] at h
      obtain ⟨i, hi, hg⟩ := ih h
      exact ⟨i, List.mem_cons_of_mem _ hi, hg⟩

/-- What a device owes in all: its partners' barriers and receive semaphores. -/
theorem owedB_pos {c : Dev nD} {l : List (Fin 4)} {g : GSem nD τ sig} {u : Unit} (h : 0 < owedB c l g u) :
    (∃ j, g = recvCell j (pt j c)) ∨ ∃ j, g = barCell (pt j c) := by
  induction l with
  | nil => obtain ⟨j, _, hg⟩ := owedR_pos h; exact .inl ⟨j, hg⟩
  | cons j l ih =>
    unfold owedB at h
    rw [Pi.add_apply, Finsupp.add_apply, tallyAt_apply] at h
    by_cases h' : g = barCell (pt j c) ∧ u = ()
    · exact .inr ⟨j, h'.1⟩
    · rw [if_neg h', Nat.add_zero] at h
      exact ih h

omit [FloatOps F] in
/-- A staging semaphore may be waited for before the body, with all its debts, and after it, with none. -/
theorem mayWait_stage (c : Dev nD) (q : DmaSem sig) (hq : ¬ IsRecv (.dma q)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedB_pos hg with ⟨j, rfl⟩ | ⟨j, rfl⟩ <;> exact Finset.mem_singleton_self _)
      (fun p hp => by rw [Finset.mem_singleton.mp hp]; exact (lv_other c q hq).le)
      (fun g u hg => by
        rcases owedB_pos hg with ⟨j, rfl⟩ | ⟨j, rfl⟩
        · rw [lv_recv]; omega
        · rw [lv_bar]; omega)
  · rw [MayWait_zero]; iintro -; iempintro

omit [FloatOps F] in
/-- A wait below every receive credit still owed is permitted. -/
theorem mayWait_rest (c : Dev nD) (sm : SemLoc sig) (l : List (Fin 4)) (n : ℕ) (hn : lv ((c : Thread nD τ), sm) () ≤ n) (hl : ∀ j ∈ l, n < 2 + j.val) :
    (levAts L lv : sProp 𝕄) ⊢ MayWait (c : Thread nD τ) sm () (owedR c l) :=
  MayOwe.of_cut (L := L) (lev := lv) n (fun p hp => by rw [Finset.mem_singleton.mp hp, L_tc]; exact Finset.mem_singleton_self _)
    (fun g u hg => by obtain ⟨j, _, rfl⟩ := owedR_pos hg; exact Finset.mem_singleton_self _)
    (fun p hp => by rw [Finset.mem_singleton.mp hp]; exact hn)
    (fun g u hg => by obtain ⟨j, hj, rfl⟩ := owedR_pos hg; rw [lv_recv]; exact hl j hj)

/-! ## The pipeline's proof data -/

/-- There is one grid point. -/
theorem cfg0_N : cfg0.N = 1 := by decide
def t₀ : Fin cfg0.N := ⟨0, by rw [cfg0_N]; decide⟩
/-- Every grid point is that one. -/
theorem fin_N (t : Fin cfg0.N) : t = t₀ := by
  obtain ⟨t, ht⟩ := t; have := cfg0_N; exact Fin.ext (by simp only [t₀]; omega)

/-- Every cell's invariant, and that every cell has reached its round 0. -/
def records (K : Dev nD × Fin 9 → ℕ) : sProp 𝕄 :=
  iprop((bigSep Finset.univ fun ck : Dev nD × Fin 9 => cellInv ER (sched m ρ) (K ck) (kcell ck))
    ∗ bigSep Finset.univ fun ck : Dev nD × Fin 9 => reached ER (kcell ck) 0)

instance records_persistent (K : Dev nD × Fin 9 → ℕ) : BI.Persistent (records m ρ K) := by unfold records; infer_instance

/-- The record of a cell's invariant. -/
theorem inv_at (K : Dev nD × Fin 9 → ℕ) (ck : Dev nD × Fin 9) : records m ρ K ⊢ cellInv ER (sched m ρ) (K ck) (kcell ck) := by
  have h : (bigSep Finset.univ fun ck : Dev nD × Fin 9 => (cellInv ER (sched m ρ) (K ck) (kcell ck) : sProp 𝕄)) ⊢ cellInv ER (sched m ρ) (K ck) (kcell ck) :=
    bigSep_elim (Finset.mem_univ ck)
  unfold records; iintro ⟨HI, -⟩; iapply h $$ HI
/-- The record that a cell has reached its round. -/
theorem reached_at (K : Dev nD × Fin 9 → ℕ) (ck : Dev nD × Fin 9) : records m ρ K ⊢ reached ER (kcell ck) 0 := by
  have h : (bigSep Finset.univ fun ck : Dev nD × Fin 9 => (reached ER (kcell ck) 0 : sProp 𝕄)) ⊢ reached ER (kcell ck) 0 :=
    bigSep_elim (Finset.mem_univ ck)
  unfold records; iintro ⟨-, HR⟩; iapply h $$ HR

/-- The positions of device `c`'s own cells of round `j`, and the tokens of the duties it pays in the round. -/
def rgh (j : Fin 4) (c : Dev nD) : sProp 𝕄 :=
  iprop((atPos ER (sendCell j c) 0 ∅ 0 ∗ atPos ER (recvCell j c) 0 ∅ 0)
    ∗ dutyTok ER (barCell (pt j c)) 0 j ∗ dutyTok ER (recvCell j (pt j c)) 0 0 ∗ dutyTok ER (sendCell j c) 0 0)

/-- The ghost state device `c` starts from. -/
def ghost (K : Dev nD × Fin 9 → ℕ) (c : Dev nD) : sProp 𝕄 :=
  iprop(records m ρ K ∗ atPos ER (barCell c) 0 ∅ 0 ∗ rgh 0 c ∗ rgh 1 c ∗ rgh 2 c ∗ rgh 3 c)

/-- The credit tokens of its barrier and of its four receive cells. -/
def crds (c : Dev nD) : sProp 𝕄 :=
  iprop(cred (tallyAt (barCell c) () 4) ∗ cred (tallyAt (recvCell 0 c) () (N 0)) ∗ cred (tallyAt (recvCell 1 c) () (N 1))
    ∗ cred (tallyAt (recvCell 2 c) () (N 2)) ∗ cred (tallyAt (recvCell 3 c) () (N 3)))

/-- What device `c`'s body starts from. -/
def start (c : Dev nD) : sProp 𝕄 := iprop((∃ K, ghost m ρ K c) ∗ crds c ∗ levAts L lv)

/-- The own cells at zero. -/
def zeros (c : Dev nD) : sProp 𝕄 :=
  iprop((semVal (sendCell 0 c) 0 ∗ semVal (sendCell 1 c) 0 ∗ semVal (sendCell 2 c) 0 ∗ semVal (sendCell 3 c) 0)
    ∗ (semVal (recvCell 0 c) 0 ∗ semVal (recvCell 1 c) 0 ∗ semVal (recvCell 2 c) 0 ∗ semVal (recvCell 3 c) 0))

def Φ₀ (c : Dev nD) : sProp 𝕄 := iprop(start m ρ c ∗ ∃ f, scr c Finset.univ f)
/-- After the point: the scratch buffer, and every cell closed at zero. -/
def Φ₁ (c : Dev nD) : sProp 𝕄 := iprop(scr c Finset.univ (J3 m ρ c) ∗ zeros c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.KernelIdeal.Sort

end
-- ==== Proof.StepsIdeal.lean ====
/-
# `KernelIdeal`: a signal, and a round's transfer with its two waits

One rule for the barrier signal to a partner and one for the whole of a round's communication, each for every round.
-/
module

public import proofs.«01_k».proof.Proof.ProtoIdeal

@[expose] public section

noncomputable section

namespace Cert.KernelIdeal.Sort

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 9 → ℕ)

/-- The invariant of a cell, by its kind. -/
theorem inv_bar (c : Dev nD) : records m ρ K ⊢ cellInv ER (sched m ρ) (K (c, 0)) (barCell c) := inv_at m ρ K (c, 0)
/-- The invariant of a cell, by its kind. -/
theorem inv_send (j : Fin 4) (c : Dev nD) : records m ρ K ⊢ cellInv ER (sched m ρ) (K (c, ks j)) (sendCell j c) := by
  have h := inv_at m ρ K (c, ks j); rw [kcell_ks] at h; exact h
/-- The invariant of a cell, by its kind. -/
theorem inv_recv (j : Fin 4) (c : Dev nD) : records m ρ K ⊢ cellInv ER (sched m ρ) (K (c, kr j)) (recvCell j c) := by
  have h := inv_at m ρ K (c, kr j); rw [kcell_kr] at h; exact h
/-- The round a cell has reached, by its kind. -/
theorem reached_bar (c : Dev nD) : records m ρ K ⊢ reached ER (barCell c) 0 := reached_at m ρ K (c, 0)
/-- The round a cell has reached, by its kind. -/
theorem reached_send (j : Fin 4) (c : Dev nD) : records m ρ K ⊢ reached ER (sendCell j c) 0 := by
  have h := reached_at m ρ K (c, ks j); rw [kcell_ks] at h; exact h
/-- The round a cell has reached, by its kind. -/
theorem reached_recv (j : Fin 4) (c : Dev nD) : records m ρ K ⊢ reached ER (recvCell j c) 0 := by
  have h := reached_at m ρ K (c, kr j); rw [kcell_kr] at h; exact h

/-- A signal to the partner of round `j`, handing over the slots of the partner's block. -/
theorem wp_sig (j : Fin 4) (l : List (Fin 4)) (c n : Dev nD) (hn : n = pt j c)
    {α : Type} {Q : α → sProp 𝕄} {k : PUnit → Prog (TpuEff nD τ sig (Elt F) Λ₀ .tc) α} (f : Scr F) (W : Waits sig Unit) :
    iprop(records m ρ K ∗ owes (c : Thread nD τ) (owedB c (j :: l)) W ∗ dutyTok ER (barCell (pt j c)) 0 j ∗ scr c (blk j.val (pt j c)) f)
      ⊢ iprop((owes (c : Thread nD τ) (owedB c l) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS (1#32 : BitVec 32).toInt) k) Q) := by
  subst hn
  have h := Rounds.wp_signal 𝒱₀ ER (sched m ρ) (c : Thread nD τ) none (dst := (pt j c : Thread nD τ)) (κ := K (pt j c, 0)) (Q := Q) (k := k) (W := W) (Es := Set.univ)
      (defs := defs₀ (F := F)) (Γ := .empty) (sem := barS) (r := 0) (d := j) (k' := 1) (by rw [duties_bar]; exact Finset.mem_univ _) (amount_bar m ρ (pt j c) j) () (O₀ := owedB c (j :: l)) (owedB c l) rfl
  iintro ⟨#HR, HO, Ht, Hs⟩
  iapply h
  isplitr; · iapply (inv_bar m ρ K (pt j c)); iexact HR
  isplitl [HO]; · iexact HO
  isplitl [Ht]; · iexact Ht
  isplitl [Hs]
  · rw [payload_bar]; unfold barPay; rw [pt_pt]; iexists f; iexact Hs
  · iapply (reached_bar m ρ K (pt j c)); iexact HR

/-- Copying a rectangle of the scratch buffer: on it the target holds what the source holds. -/
theorem copy_eq (r : Rect S16x256x128) (h : ∀ a, r.stride a = 1) (f g : Scr F) (i : S16x256x128.Idx) (hi : i ∈ r.set) :
    (bM.slice r h).view.write (Elt F) f ((bM.slice r h).view.read (Elt F) g) Finset.univ i = g i := by
  have hm : i ∈ (bM.slice r h).view.set := by
    rw [show (bM.slice r h).view.set = r.set from View.set_slice_whole cc0_scratch0 r]; exact hi
  obtain ⟨x, _, rfl⟩ := Finset.mem_map.mp hm
  exact View.write_emb_of_mem (v := (bM.slice r h).view) f _ (Finset.mem_univ x)

set_option maxHeartbeats 800000 in
/-- Round `j`: the own block goes to the partner, the send semaphore returns it, the receive semaphore brings the partner's. -/
theorem wp_round (j : Fin 4) (l : List (Fin 4)) (hl : ∀ i ∈ l, j.val < i.val) (c n : Dev nD) (hn : n = pt j c)
    (r : Rect S16x256x128) (hr1 : ∀ a, r.stride a = 1) (hset : r.set = blk j.val c)
    {hsc : (bM.slice r hr1).view.ref.isScScratch = false} {sS rS : DmaSem sig} (hS : sS = sendS j) (hR : rS = recvS j)
    (hN : (bM.slice r hr1).view.dmaCredit = N j)
    {hsrc hdst hs1 hd1 hs2 hd2 : (bM.slice r hr1).view.WordExact}
    {hsem : DmaTarget.Typed .vmem (.dma rS) (.remote (Dev.tc n : Thread nD τ) (bM.slice r hr1) (.dma sS) hsc)}
    {α : Type} {Q : α → sProp 𝕄} {k : PUnit → Prog (TpuEff nD τ sig (Elt F) Λ₀ .tc) α}
    (fn : Scr F) (W : Waits sig Unit) :
    iprop((records m ρ K ∗ levAts L lv) ∗ scr c (blk j.val c) (B m ρ j c) ∗ scr (pt j c) (blk j.val c) fn
        ∗ owes (c : Thread nD τ) (owedR c (j :: l)) W
        ∗ (atPos ER (sendCell j c) 0 ∅ 0 ∗ atPos ER (recvCell j c) 0 ∅ 0)
        ∗ (dutyTok ER (recvCell j (pt j c)) 0 0 ∗ dutyTok ER (sendCell j c) 0 0)
        ∗ cred (tallyAt (recvCell j c) () (N j)))
      ⊢ iprop(((∃ W', owes (c : Thread nD τ) (owedR c l) W') ∗ (atPos ER (sendCell j c) 1 ∅ 0 ∗ atPos ER (recvCell j c) 1 ∅ 0)
              ∗ scr c (blk (j.val + 1) c) (join j (B m ρ j) c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bM.slice r hr1) (.remote (Dev.tc n : Thread nD τ) (bM.slice r hr1) (.dma sS) hsc) (.dma rS) hsrc hdst hsem) fun _ =>
                .op (.waitDma2 sS (bM.slice r hr1) (bM.slice r hr1) hs1 hd1) fun _ =>
                .op (.waitDma2 rS (bM.slice r hr1) (bM.slice r hr1) hs2 hd2) k) Q) := by
  subst hn hS hR
  have hv : (bM.slice r hr1).view.set = blk j.val c := (View.set_slice_whole cc0_scratch0 r).trans hset
  have hsend (k' : PUnit → Prog (TpuEff nD τ sig (Elt F) Λ₀ .tc) α) := Rounds.wp_send_pointsTo (src := bM.slice r hr1) (c' := (pt j c : Thread nD τ)) (dst := bM.slice r hr1) (hsc := hsc) (hsrc := hsrc) (hdst := hdst) (hsem := hsem)
    (q := fullShare) (defs := defs₀ (F := F)) (Γ := .empty) (Q := Q) (k := k') (Es := Set.univ) (fs := B m ρ j c)
    𝒱₀ ER (sched m ρ) (c : Thread nD τ) none (κ₁ := K (c, ks j)) (κ₂ := K (pt j c, kr j))
    (r₁ := 0) (r₂ := 0) (d₁ := 0) (d₂ := 0) (fd := fn)
    (by rw [duties_send]; exact Finset.mem_singleton_self _) (by rw [duties_recv]; exact Finset.mem_singleton_self _)
    () () (N j) hN (amount_send m ρ j c 0) (amount_recv m ρ j (pt j c) 0) (O₀ := owedR c (j :: l)) (owedR c l) rfl (W := W)
    (by rw [payload_send, hv]; exact BI.Entails.refl _)
    (by
      rw [payload_recv, hv]; unfold recvPay; rw [pt_pt]
      exact Entails.of_eq (scr_congr (pt j c) (blk j.val c) _ (B m ρ j c) fun i hi => copy_eq r hr1 fn (B m ρ j c) i (hset ▸ hi)))
  have hw1 (k' : PUnit → Prog (TpuEff nD τ sig (Elt F) Λ₀ .tc) α) (W : Waits sig Unit) :=
    Rounds.wp_wait_rest_token (defs := defs₀ (F := F)) (Γ := .empty) (Q := Q) (k := k') 𝒱₀ ER (sched m ρ) (c : Thread nD τ) none (κ := K (c, ks j))
      (wpE_waitDma2_eq (sem := sendS j) (src := bM.slice r hr1) (dst := bM.slice r hr1) (hsrc := hs1) (hdst := hd1) 𝒱₀ (c : Thread nD τ) none Set.univ) (Set.mem_univ _) () (O := owedR c l) (W := W) (R := 0) (m := 0) (T := ∅)
      (by rw [Nat.zero_add, expect_send, hN])
  have hw2 (W : Waits sig Unit) :=
    Rounds.wp_wait_rest_token (defs := defs₀ (F := F)) (Γ := .empty) (Q := Q) (k := k) 𝒱₀ ER (sched m ρ) (c : Thread nD τ) none (κ := K (c, kr j))
      (wpE_waitDma2_eq (sem := recvS j) (src := bM.slice r hr1) (dst := bM.slice r hr1) (hsrc := hs2) (hdst := hd2) 𝒱₀ (c : Thread nD τ) none Set.univ) (Set.mem_univ _) () (O := owedR c l) (W := W) (R := 0) (m := 0) (T := ∅)
      (by rw [Nat.zero_add, expect_recv, hN])
  rw [hN] at hw1 hw2
  iintro ⟨⟨#HR, #Hlev⟩, Hs, Hn, HO, ⟨HatS, HatV⟩, ⟨HtV, HtS⟩, HcV⟩ Hk
  iapply (hsend _) $$ [Hs Hn HO HtS HtV]
  · isplitr; · iapply (inv_send m ρ K j c); iexact HR
    isplitr; · iapply (inv_recv m ρ K j (pt j c)); iexact HR
    isplitl [Hs]; · rw [hv]; unfold scr; iexact Hs
    isplitl [Hn]; · rw [hv]; unfold scr; iexact Hn
    isplitl [HO]; · iexact HO
    isplitl [HtS]; · iexact HtS
    isplitr; · iapply (reached_send m ρ K j c); iexact HR
    isplitl [HtV]; · iexact HtV
    iapply (reached_recv m ρ K j (pt j c)); iexact HR
  iintro ⟨HcS, HO⟩
  iapply (hw1 _ _) $$ [HcS HO HatS]
  · isplitr; · iapply (inv_send m ρ K j c); iexact HR
    isplitl [HcS]; · iexact HcS
    isplitl [HO]; · iexact HO
    isplitr
    · iapply (mayWait_rest c (.dma (sendS j)) l 0 (lv_other c _ (not_isRecv_send j)).le fun i _ => by omega); iexact Hlev
    iexact HatS
  iintro ⟨HO, HatS, -, Hpay⟩
  ihave Hs := (Entails.of_eq (rest_send m ρ j c)) $$ Hpay
  iapply (hw2 _) $$ [HcV HO HatV]
  · isplitr; · iapply (inv_recv m ρ K j c); iexact HR
    isplitl [HcV]; · iexact HcV
    isplitl [HO]; · iexact HO
    isplitr
    · iapply (mayWait_rest c (.dma (recvS j)) l (2 + j.val) (lv_recv j c).le fun i hi => by have := hl i hi; omega); iexact Hlev
    iexact HatV
  iintro ⟨HO, HatV, -, Hpay⟩
  ihave Hn := (Entails.of_eq (rest_recv m ρ j c)) $$ Hpay
  iapply Hk
  isplitl [HO]; · iexists _; iexact HO
  isplitl [HatS HatV]
  · isplitl [HatS] <;> iassumption
  iapply (scr_join j c (B m ρ j))
  unfold sendPay recvPay
  isplitl [Hs] <;> iassumption

end Cert.KernelIdeal.Sort

end
-- ==== Proof.BodyIdeal.lean ====
/-
# `KernelIdeal`: the body

The body executed once, one rule per effect (or per round) in program order: four signals, the barrier's wait, the local
sort, and the four rounds with the merge after each.
-/
module

public import proofs.«01_k».proof.Proof.StepsIdeal

@[expose] public section

noncomputable section

namespace Cert.KernelIdeal.Sort

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 9 → ℕ)

omit [FloatOps F] in
/-- The two windows one by one. -/
theorem bigSep_W (Φ : Fin cfg0.W → sProp 𝕄) : bigSep Finset.univ Φ = iprop(Φ (0 : Fin 2) ∗ Φ (1 : Fin 2)) := bigSep_W0 Φ

/-- The operand's window is fetched at the one grid point. -/
theorem fetch_0 (t : Fin cfg0.N) : (cfg0.win (0 : Fin 2)).fetch t = true := by rw [fin_N t]; rfl

omit [FloatOps F] in
/-- Owning a whole staging buffer is owning its elements. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ crds c ∗ levAts L lv ∗ ∃ f, scr c Finset.univ f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-- A load, and a store, of a rectangle of the scratch buffer of which these elements are held. -/
theorem wp_ld (r : Rect S16x256x128) (S : Finset S16x256x128.Idx) (h : r.set = S) (c : Dev nD) (f : Scr F) {hl : bM.view.LoadsAt r.toLoadRect}
    {α : Type} {Q : α → sProp 𝕄} {k : (r.shape.Idx → Elt F .bf16) → Prog (TpuEff nD τ sig (Elt F) Λ₀ .tc) α} :
    scr c S f ⊢ iprop((scr c S f -∗ wp frame (wpE (defs₀ (F := F)) 𝒱₀ (c : Thread nD τ) none) Set.univ (k (get r f)) Q)
      -∗ wp frame (wpE (defs₀ (F := F)) 𝒱₀ (c : Thread nD τ) none) Set.univ (.op (.load bM r.toLoadRect hl) k) Q) := by
  unfold scr
  exact wp_load_rect 𝒱₀ (c : Thread nD τ) none Set.univ (defs := defs₀ (F := F)) (Γ := .empty) (m := bM) (r := r) (hl := hl) (k := k) (Q := Q) (q := fullShare) (S := S) (f := f) (((View.set_slice_whole cc0_scratch0 r).trans h).le)

/-- The last load's rectangle is the whole scratch buffer. -/
theorem q4_set : q4.set = Finset.univ := by
  ext i
  rw [mem_slots _ 0 16 rfl _ rfl _ i]
  exact ⟨fun _ => Finset.mem_univ _, fun _ => ⟨Nat.zero_le _, by have := slot_lt i; omega⟩⟩

set_option maxHeartbeats 400000 in
/-- A store of a rectangle the device owns. -/
theorem wp_st (r : Rect S16x256x128) (S : Finset S16x256x128.Idx) (h : r.set = S) (c : Dev nD) (f : Scr F) {w : r.shape.Idx → Elt F .bf16}
    {hx : (bM.access r : View sig .tc _ _ _).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    scr c S f ⊢ iprop((scr c S (put r f w) -∗ wp frame (wpE (defs₀ (F := F)) 𝒱₀ (c : Thread nD τ) none) Set.univ (k ⟨⟩) Q)
      -∗ wp frame (wpE (defs₀ (F := F)) 𝒱₀ (c : Thread nD τ) none) Set.univ (.op (.store bM r w Finset.univ hx hm) k) Q) := by
  unfold scr
  exact wp_store 𝒱₀ (c : Thread nD τ) none Set.univ (m := bM) (r := r) (Mk := Finset.univ) (((View.set_slice_whole cc0_scratch0 r).trans h).le)

/-- What the first store leaves on the device's own slot. -/
theorem stored0 (c : Dev nD) (f : Scr F) :
    scr c (blk (0 : Fin 4).val c) (put (q0 c) f (localSort (bit0 c) (xstg m ρ c))) ⊢ scr c (blk (0 : Fin 4).val c) (B m ρ 0 c) := by
  refine Entails.of_eq ?_
  show _ = scr c (blk (0 : Fin 4).val c) (B0 m ρ c)
  unfold B0
  generalize localSort (bit0 c) (xstg m ρ c) = w
  refine scr_congr c _ _ _ fun i hi => put_congr (q0 c) _ _ w i ?_
  rw [q0_set]; exact hi

/-- What the later stores leave. -/
theorem stored1 (c : Dev nD) : scr c (blk (1 : Fin 4).val c) (put (q1 c) (J0 m ρ c) (merge1 (bit1 c) (get (q1 c) (J0 m ρ c))))
    ⊢ scr c (blk (1 : Fin 4).val c) (B m ρ 1 c) := by show _ ⊢ scr c (blk (1 : Fin 4).val c) (B1 m ρ c); unfold B1; exact BI.Entails.refl _
/-- The slots stored before round 2 are the ones round 2 sends. -/
theorem stored2 (c : Dev nD) : scr c (blk (2 : Fin 4).val c) (put (q2 c) (J1 m ρ c) (merge2 (pos c) (bit2 c) (get (q2 c) (J1 m ρ c))))
    ⊢ scr c (blk (2 : Fin 4).val c) (B m ρ 2 c) := by show _ ⊢ scr c (blk (2 : Fin 4).val c) (B2 m ρ c); unfold B2; exact BI.Entails.refl _
/-- The slots stored before round 3 are the ones round 3 sends. -/
theorem stored3 (c : Dev nD) : scr c (blk (3 : Fin 4).val c) (put (q3 c) (J2 m ρ c) (merge3 (bit3 c) (get (q3 c) (J2 m ρ c))))
    ⊢ scr c (blk (3 : Fin 4).val c) (B m ρ 3 c) := by show _ ⊢ scr c (blk (3 : Fin 4).val c) (B3 m ρ c); unfold B3; exact BI.Entails.refl _

/-- What each round leaves. -/
theorem after0 (c : Dev nD) : scr c (blk ((0 : Fin 4).val + 1) c) (join 0 (B m ρ 0) c) ⊢ scr c (blk (1 : Fin 4).val c) (J0 m ρ c) := by
  unfold J0; exact BI.Entails.refl _
/-- The slots held after a round are the next round's block. -/
theorem after1 (c : Dev nD) : scr c (blk ((1 : Fin 4).val + 1) c) (join 1 (B m ρ 1) c) ⊢ scr c (blk (2 : Fin 4).val c) (J1 m ρ c) := by
  unfold J1; exact BI.Entails.refl _
/-- The slots held after a round are the next round's block. -/
theorem after2 (c : Dev nD) : scr c (blk ((2 : Fin 4).val + 1) c) (join 2 (B m ρ 2) c) ⊢ scr c (blk (3 : Fin 4).val c) (J2 m ρ c) := by
  unfold J2; exact BI.Entails.refl _
/-- After the last round all the slots are held. -/
theorem after3 (c : Dev nD) : scr c (blk ((3 : Fin 4).val + 1) c) (join 3 (B m ρ 3) c) ⊢ scr c Finset.univ (J3 m ρ c) := by
  rw [show blk ((3 : Fin 4).val + 1) c = Finset.univ from blk_four c]; unfold J3; exact BI.Entails.refl _

/-- The whole scratch buffer: the own slot, and for each round the partner's block. -/
theorem scr_parts (c : Dev nD) (f : Scr F) : scr c Finset.univ f ⊢ iprop(scr c (blk (0 : Fin 4).val c) f ∗ scr c (blk (0 : Fin 4).val (pt 0 c)) f
    ∗ scr c (blk (1 : Fin 4).val (pt 1 c)) f ∗ scr c (blk (2 : Fin 4).val (pt 2 c)) f ∗ scr c (blk (3 : Fin 4).val (pt 3 c)) f) := by
  have h3 := scr_split 3 c f
  have h2 : scr c (blk (3 : Fin 4).val c) f ⊢ _ := scr_split 2 c f
  have h1 : scr c (blk (2 : Fin 4).val c) f ⊢ _ := scr_split 1 c f
  have h0 : scr c (blk (1 : Fin 4).val c) f ⊢ _ := scr_split 0 c f
  rw [show blk ((3 : Fin 4).val + 1) c = Finset.univ from blk_four c] at h3
  iintro Hscr
  ihave H3 := h3 $$ Hscr
  icases H3 with ⟨H3, Hp3⟩
  ihave H2 := h2 $$ H3
  icases H2 with ⟨H2, Hp2⟩
  ihave H1 := h1 $$ H2
  icases H1 with ⟨H1, Hp1⟩
  ihave H0 := h0 $$ H1
  icases H0 with ⟨H0, Hp0⟩
  isplitl [H0]; · iexact H0
  isplitl [Hp0]; · iexact Hp0
  isplitl [Hp1]; · iexact Hp1
  isplitl [Hp2] <;> iassumption

set_option maxHeartbeats 4000000 in
set_option maxRecDepth 8000 in
/-- The body, executed from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]
  rw [body_eq_line]
  unfold line
  simp only [semSignalWord, semWaitWord, Prog.lift, Prog.bind_op, Prog.bind_ret, Prog.pure_eq_ret, wp_deviceId]
  unfold bodyPre ghost rgh crds
  iintro ⟨⟨⟨⟨#HR, HatB, ⟨Hat0, HtB0, Ht0⟩, ⟨Hat1, HtB1, Ht1⟩, ⟨Hat2, HtB2, Ht2⟩, ⟨Hat3, HtB3, Ht3⟩⟩, ⟨HcB, Hc0, Hc1, Hc2, Hc3⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owedB c [0, 1, 2, 3] from rfl]
  ihave Hscr' := (scr_parts c f0) $$ Hscr
  icases Hscr' with ⟨H0, Hp0, Hp1, Hp2, Hp3⟩
  -- the four signals
  iapply (wp_sig m ρ K 0 [1, 2, 3] c _ (dev1_eq c) f0 W) $$ [HO HtB0 Hp0]
  · isplitr; · iexact HR
    isplitl [HO]; · iexact HO
    isplitl [HtB0] <;> iassumption
  iintro HO
  iapply (wp_sig m ρ K 1 [2, 3] c _ (dev2_eq c) f0 W) $$ [HO HtB1 Hp1]
  · isplitr; · iexact HR
    isplitl [HO]; · iexact HO
    isplitl [HtB1] <;> iassumption
  iintro HO
  iapply (wp_sig m ρ K 2 [3] c _ (dev3_eq c) f0 W) $$ [HO HtB2 Hp2]
  · isplitr; · iexact HR
    isplitl [HO]; · iexact HO
    isplitl [HtB2] <;> iassumption
  iintro HO
  iapply (wp_sig m ρ K 3 [] c _ (dev4_eq c) f0 W) $$ [HO HtB3 Hp3]
  · isplitr; · iexact HR
    isplitl [HO]; · iexact HO
    isplitl [HtB3] <;> iassumption
  iintro HO
  -- the barrier's wait
  iapply (Rounds.wp_wait_rest_token 𝒱₀ ER (sched m ρ) (c : Thread nD τ) none (κ := K (c, 0))
      (wpE_semWait_eq 𝒱₀ (c : Thread nD τ) none Set.univ) (Set.mem_univ _) () (O := owedR c [0, 1, 2, 3]) (W := W) (R := 0) (m := 0) (T := ∅)
      (by rw [expect_bar]; decide)) $$ [HcB HO HatB]
  · isplitr; · iapply (inv_bar m ρ K c); iexact HR
    isplitl [HcB]; · iexact HcB
    isplitl [HO]; · iexact HO
    isplitr; · iapply (mayWait_rest c (.reg barS) [0, 1, 2, 3] 1 (lv_bar c).le fun i _ => by omega); iexact Hlev
    iexact HatB
  iintro ⟨HO, HatB, -, Hpay⟩
  ihave Hp := (Entails.of_eq (rest_bar m ρ c)) $$ Hpay
  unfold barPay
  icases Hp with ⟨⟨%n0, Hn0⟩, ⟨%n1, Hn1⟩, ⟨%n2, Hn2⟩, ⟨%n3, Hn3⟩⟩
  -- the local sort
  iapply (wp_load 𝒱₀ (c : Thread nD τ) none Set.univ (m := xM) (Finset.subset_univ _)) $$ Hx; iintro Hx
  rw [read_x]
  iapply (wp_ld (q0 c) (blk (0 : Fin 4).val c) (q0_set c) c f0) $$ H0; iintro H0
  iapply (wp_st (q0 c) (blk (0 : Fin 4).val c) (q0_set c) c f0) $$ H0; iintro H0
  ihave Hs := (stored0 m ρ c f0) $$ H0
  -- round 0 and the merge after it
  iapply (wp_round m ρ K 0 [1, 2, 3] (by decide) c _ (dev5_eq c) (t0 c) (fun _ => rfl) (t0_set c) rfl rfl rfl n0 _) $$ [Hs Hn0 HO Hat0 Ht0 Hc0]
  · isplitr; · isplitr <;> iassumption
    isplitl [Hs]; · iexact Hs
    isplitl [Hn0]; · iexact Hn0
    isplitl [HO]; · iexact HO
    isplitl [Hat0]; · iexact Hat0
    isplitl [Ht0] <;> iassumption
  iintro ⟨⟨%W0, HO⟩, ⟨HatS0, HatV0⟩, Hs⟩
  ihave Hs := (after0 m ρ c) $$ Hs
  iapply (wp_ld (q1 c) (blk (1 : Fin 4).val c) (q1_set c) c (J0 m ρ c)) $$ Hs; iintro Hs
  iapply (wp_ld (q1 c) (blk (1 : Fin 4).val c) (q1_set c) c (J0 m ρ c)) $$ Hs; iintro Hs
  iapply (wp_st (q1 c) (blk (1 : Fin 4).val c) (q1_set c) c (J0 m ρ c)) $$ Hs; iintro Hs
  ihave Hs := (stored1 m ρ c) $$ Hs
  -- round 1
  iapply (wp_round m ρ K 1 [2, 3] (by decide) c _ (dev6_eq c) (t1 c) (fun _ => rfl) (t1_set c) rfl rfl rfl n1 _) $$ [Hs Hn1 HO Hat1 Ht1 Hc1]
  · isplitr; · isplitr <;> iassumption
    isplitl [Hs]; · iexact Hs
    isplitl [Hn1]; · iexact Hn1
    isplitl [HO]; · iexact HO
    isplitl [Hat1]; · iexact Hat1
    isplitl [Ht1] <;> iassumption
  iintro ⟨⟨%W1, HO⟩, ⟨HatS1, HatV1⟩, Hs⟩
  ihave Hs := (after1 m ρ c) $$ Hs
  iapply (wp_ld (q2 c) (blk (2 : Fin 4).val c) (q2_set c) c (J1 m ρ c)) $$ Hs; iintro Hs
  iapply (wp_ld (q2 c) (blk (2 : Fin 4).val c) (q2_set c) c (J1 m ρ c)) $$ Hs; iintro Hs
  iapply (wp_st (q2 c) (blk (2 : Fin 4).val c) (q2_set c) c (J1 m ρ c)) $$ Hs; iintro Hs
  ihave Hs := (stored2 m ρ c) $$ Hs
  -- round 2
  iapply (wp_round m ρ K 2 [3] (by decide) c _ (dev7_eq c) (t2 c) (fun _ => rfl) (t2_set c) rfl rfl rfl n2 _) $$ [Hs Hn2 HO Hat2 Ht2 Hc2]
  · isplitr; · isplitr <;> iassumption
    isplitl [Hs]; · iexact Hs
    isplitl [Hn2]; · iexact Hn2
    isplitl [HO]; · iexact HO
    isplitl [Hat2]; · iexact Hat2
    isplitl [Ht2] <;> iassumption
  iintro ⟨⟨%W2, HO⟩, ⟨HatS2, HatV2⟩, Hs⟩
  ihave Hs := (after2 m ρ c) $$ Hs
  iapply (wp_ld (q3 c) (blk (3 : Fin 4).val c) (q3_set c) c (J2 m ρ c)) $$ Hs; iintro Hs
  iapply (wp_ld (q3 c) (blk (3 : Fin 4).val c) (q3_set c) c (J2 m ρ c)) $$ Hs; iintro Hs
  iapply (wp_st (q3 c) (blk (3 : Fin 4).val c) (q3_set c) c (J2 m ρ c)) $$ Hs; iintro Hs
  ihave Hs := (stored3 m ρ c) $$ Hs
  -- round 3
  iapply (wp_round m ρ K 3 [] (by decide) c _ (dev8_eq c) (t3 c) (fun _ => rfl) (t3_set c) rfl rfl rfl n3 _) $$ [Hs Hn3 HO Hat3 Ht3 Hc3]
  · isplitr; · isplitr <;> iassumption
    isplitl [Hs]; · iexact Hs
    isplitl [Hn3]; · iexact Hn3
    isplitl [HO]; · iexact HO
    isplitl [Hat3]; · iexact Hat3
    isplitl [Ht3] <;> iassumption
  iintro ⟨⟨%W3, HO⟩, ⟨HatS3, HatV3⟩, Hs⟩
  ihave Hs := (after3 m ρ c) $$ Hs
  iapply (wp_ld q4 Finset.univ q4_set c (J3 m ρ c)) $$ Hs; iintro Hs
  rw [show get q4 (J3 m ρ c) = J3 m ρ c from read_all _]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  -- every cell closes
  imod (Rounds.cell_close ER (sched m ρ) (Set.mem_univ (K (c, 0))) (fun h => h) (R := 1) (duties_later m ρ (barCell c))) $$ [HatB] with HzB
  · isplitr; · iapply (inv_bar m ρ K c); iexact HR
    iexact HatB
  imod (Rounds.cell_close ER (sched m ρ) (Set.mem_univ (K (c, ks 0))) (fun h => h) (R := 1) (duties_later m ρ (sendCell 0 c))) $$ [HatS0] with HzS0
  · isplitr; · iapply (inv_send m ρ K 0 c); iexact HR
    iexact HatS0
  imod (Rounds.cell_close ER (sched m ρ) (Set.mem_univ (K (c, ks 1))) (fun h => h) (R := 1) (duties_later m ρ (sendCell 1 c))) $$ [HatS1] with HzS1
  · isplitr; · iapply (inv_send m ρ K 1 c); iexact HR
    iexact HatS1
  imod (Rounds.cell_close ER (sched m ρ) (Set.mem_univ (K (c, ks 2))) (fun h => h) (R := 1) (duties_later m ρ (sendCell 2 c))) $$ [HatS2] with HzS2
  · isplitr; · iapply (inv_send m ρ K 2 c); iexact HR
    iexact HatS2
  imod (Rounds.cell_close ER (sched m ρ) (Set.mem_univ (K (c, ks 3))) (fun h => h) (R := 1) (duties_later m ρ (sendCell 3 c))) $$ [HatS3] with HzS3
  · isplitr; · iapply (inv_send m ρ K 3 c); iexact HR
    iexact HatS3
  imod (Rounds.cell_close ER (sched m ρ) (Set.mem_univ (K (c, kr 0))) (fun h => h) (R := 1) (duties_later m ρ (recvCell 0 c))) $$ [HatV0] with HzV0
  · isplitr; · iapply (inv_recv m ρ K 0 c); iexact HR
    iexact HatV0
  imod (Rounds.cell_close ER (sched m ρ) (Set.mem_univ (K (c, kr 1))) (fun h => h) (R := 1) (duties_later m ρ (recvCell 1 c))) $$ [HatV1] with HzV1
  · isplitr; · iapply (inv_recv m ρ K 1 c); iexact HR
    iexact HatV1
  imod (Rounds.cell_close ER (sched m ρ) (Set.mem_univ (K (c, kr 2))) (fun h => h) (R := 1) (duties_later m ρ (recvCell 2 c))) $$ [HatV2] with HzV2
  · isplitr; · iapply (inv_recv m ρ K 2 c); iexact HR
    iexact HatV2
  imod (Rounds.cell_close ER (sched m ρ) (Set.mem_univ (K (c, kr 3))) (fun h => h) (R := 1) (duties_later m ρ (recvCell 3 c))) $$ [HatV3] with HzV3
  · isplitr; · iapply (inv_recv m ρ K 3 c); iexact HR
    iexact HatV3
  rw [write_out, wp_ret]; imodintro
  iapply Hk
  unfold bodyPost Φ₁ zeros Dat.owesAt Pipeline.owesWithin
  rw [show (dats m ρ 0 c).owed t₀.succ = owedR c [] from rfl]
  isplitl [Hs HzB HzS0 HzS1 HzS2 HzS3 HzV0 HzV1 HzV2 HzV3]
  · isplitl [Hs]; · iexact Hs
    isplitr [HzB]
    · isplitl [HzS0 HzS1 HzS2 HzS3]
      · isplitl [HzS0]; · iexact HzS0
        isplitl [HzS1]; · iexact HzS1
        isplitl [HzS2] <;> iassumption
      · isplitl [HzV0]; · iexact HzV0
        isplitl [HzV1]; · iexact HzV1
        isplitl [HzV2] <;> iassumption
    · iexact HzB
  isplitl [HO]
  · iexists W3
    isplitr; · ipureintro; exact fun _ _ => Or.inl trivial
    iexact HO
  isplitl [Hx]
  · iexists _; isplitr; · (ipureintro; rfl)
    iexact Hx
  iexists _; isplitr; · (ipureintro; rfl)
  iexact Hout

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 8000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx] <;> iassumption
  · iintro H; iexact H

end Cert.KernelIdeal.Sort

end
-- ==== Proof.RunIdeal.lean ====
/-
# `KernelIdeal`: the launch and the run

The ghost state of the launch dealt to the devices, and the run of the whole program: it terminates, every semaphore is at
zero, the operand is unchanged and the result is what `outAt` says.
-/
module

public import proofs.«01_k».proof.Proof.BodyIdeal
public import Idealize.ShloMosaic.Lib.Pipeline.CollectiveSegs

@[expose] public section

noncomputable section

namespace Cert.KernelIdeal.Sort

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores are eight different scoped ones. -/
theorem ownSemFacts : Pipeline.OwnSemFacts cfg0.spec osem := by decide +kernel

/-- Each window's array is owned in full. -/
theorem share_eq (c : Dev nD) (w : Fin cfg0.W) : (dats m ρ 0 c).share w = fullShare := by unfold Dat.share; split <;> rfl

/-- Different numbers are different cells. -/
theorem csem_injective : Function.Injective csem := by decide +kernel
/-- Different numbers are different cells. -/
theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def allCells : Finset (GSem nD τ sig) := Finset.univ.map ⟨kcell, kcell_injective⟩

/-- A device's own cells' duties: its barrier's four, its four send cells' and its four receive cells' one each. -/
def tokS : Fin 3 × Fin 4 → SemLoc sig × Fin 4
  | (0, j) => (.reg barS, j) | (1, j) => (.dma (sendS j), 0) | (2, j) => (.dma (recvS j), 0)
/-- Different tokens are of different credits. -/
theorem tokS_injective : Function.Injective tokS := by decide +kernel
abbrev tokOf (cj : Dev nD × Fin 3 × Fin 4) : GSem nD τ sig × ℕ × Fin 4 := (((cj.1 : Thread nD τ), (tokS cj.2).1), 0, (tokS cj.2).2)
/-- Different tokens are of different credits. -/
theorem tokOf_injective : Function.Injective (tokOf : Dev nD × Fin 3 × Fin 4 → GSem nD τ sig × ℕ × Fin 4) := by
  rintro ⟨c, j⟩ ⟨c', j'⟩ h
  have h1 : c = c' := congrArg (fun x : GSem nD τ sig × ℕ × Fin 4 => x.1.1.1) h
  subst h1
  have h2 : tokS j = tokS j' := Prod.ext (congrArg (fun x : GSem nD τ sig × ℕ × Fin 4 => x.1.2) h) (congrArg (fun x : GSem nD τ sig × ℕ × Fin 4 => x.2.2) h)
  rw [tokS_injective h2]
def allToks : Finset (GSem nD τ sig × ℕ × Fin 4) := Finset.univ.map ⟨tokOf, tokOf_injective⟩

def u₀ : UU :=
  (initOf (Pipeline.cells cfgs cellOf_inj) (Pipeline.launchToks cfgs cellOf_inj), initOf allCells allToks)

/-- The duty tokens of device `c`'s own cells; the tokens of the duties it pays. -/
def toks (c : Dev nD) : sProp 𝕄 :=
  iprop((bigSep Finset.univ fun j : Fin 4 => dutyTok ER (barCell c) 0 j) ∗ (bigSep Finset.univ fun j : Fin 4 => dutyTok ER (sendCell j c) 0 0)
    ∗ (bigSep Finset.univ fun j : Fin 4 => dutyTok ER (recvCell j c) 0 0))
def payToks (c : Dev nD) : sProp 𝕄 :=
  iprop((bigSep Finset.univ fun j : Fin 4 => dutyTok ER (barCell (pt j c)) 0 j) ∗ (bigSep Finset.univ fun j : Fin 4 => dutyTok ER (sendCell j c) 0 0)
    ∗ (bigSep Finset.univ fun j : Fin 4 => dutyTok ER (recvCell j (pt j c)) 0 0))

/-- What the launch element deals device `c`. -/
def G (c : Dev nD) : sProp 𝕄 :=
  iprop((bigSep Finset.univ fun k : Fin 9 => roundState ER (sched m ρ) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
/-- Three conjuncts one by one. -/
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
/-- Nine conjuncts one by one. -/
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The cells and tokens at the start. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 9 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_fin3]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores at zero, one by one. -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (sendCell 3 c) 0
      ∗ semVal (recvCell 0 c) 0 ∗ semVal (recvCell 1 c) 0 ∗ semVal (recvCell 2 c) 0 ∗ semVal (recvCell 3 c) 0) := by
  rw [Pipeline.ownSems0_eq_of_list c osem [0, 1, 2, 3, 4, 5, 6, 7] (by decide) (by decide)]; rfl
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- The nine semaphores at zero: the kernel's own eight and the barrier. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  iintro ⟨HS, HB⟩
  isplitl [HB]; · iexact HB
  iexact HS

/-- One device's cells are set up from its semaphores at zero. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def linear (c : Dev nD) : sProp 𝕄 :=
  iprop((bigSep Finset.univ fun k : Fin 9 => atPos ER (kcell (c, k)) 0 ∅ 0) ∗ payToks c)

/-- What each device starts with, from the records and its own tokens. -/
theorem ghost_intro (K : Dev nD × Fin 9 → ℕ) (c : Dev nD) : iprop(records m ρ K ∗ linear c) ⊢ G' m ρ c := by
  unfold linear payToks G' ghost rgh
  rw [bigSep_fin9, bigSep_fin4, bigSep_fin4, bigSep_fin4]
  iintro ⟨#HR, ⟨HB, S0, S1, S2, S3, V0, V1, V2, V3⟩, ⟨b0, b1, b2, b3⟩, ⟨s0, s1, s2, s3⟩, ⟨r0, r1, r2, r3⟩⟩
  iexists K
  isplitr; · iexact HR
  isplitl [HB]; · iexact HB
  isplitl [S0 V0 b0 r0 s0]
  · isplitl [S0 V0]
    · isplitl [S0] <;> iassumption
    isplitl [b0]; · iexact b0
    isplitl [r0] <;> iassumption
  isplitl [S1 V1 b1 r1 s1]
  · isplitl [S1 V1]
    · isplitl [S1] <;> iassumption
    isplitl [b1]; · iexact b1
    isplitl [r1] <;> iassumption
  isplitl [S2 V2 b2 r2 s2]
  · isplitl [S2 V2]
    · isplitl [S2] <;> iassumption
    isplitl [b2]; · iexact b2
    isplitl [r2] <;> iassumption
  isplitl [S3 V3]
  · isplitl [S3] <;> iassumption
  isplitl [b3]; · iexact b3
  isplitl [r3] <;> iassumption

omit [FloatOps F] in
/-- A family over rounds and devices, re-indexed along each round's partners. -/
theorem around (Φ : Fin 4 → Dev nD → sProp 𝕄) : (bigSep Finset.univ fun c : Dev nD => bigSep Finset.univ fun j : Fin 4 => Φ j c)
    = bigSep Finset.univ fun c : Dev nD => bigSep Finset.univ fun j : Fin 4 => Φ j (pt j c) := by
  rw [bigSep_univ_comm, bigSep_univ_comm (fun (c : Dev nD) (j : Fin 4) => Φ j (pt j c))]
  exact bigSep_congr fun j _ => bigSep_univ_equiv (ptEquiv j) (fun c : Dev nD => Φ j c)

omit [FloatOps F] in
/-- The tokens go from the devices credited to the devices that credit. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', around (fun j c => dutyTok ER (barCell c) 0 j), around (fun j c => dutyTok ER (recvCell j c) 0 0)]

omit [FloatOps F] in
/-- A record may be handed to every conjunct. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The set-up of all devices, device by device. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 9 => iprop(∃ κ : ℕ, cellInv ER (sched m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- When two cells are the same. -/
theorem bar_eq_iff {a b : Dev nD} : Iff (barCell a = barCell b) (a = b) :=
  ⟨fun h => Fin.ext (congrArg (fun g : GSem nD τ sig => g.1.1.val) h), fun h => h ▸ rfl⟩
/-- When two cells are the same. -/
theorem recv_eq_iff {i j : Fin 4} {a b : Dev nD} : Iff (recvCell i a = recvCell j b) (i = j ∧ a = b) :=
  ⟨fun h => ⟨recvS_inj (SemLoc.dma.inj (congrArg Prod.snd h)), Fin.ext (congrArg (fun g : GSem nD τ sig => g.1.1.val) h)⟩, fun h => by rw [h.1, h.2]⟩

/-- The rounds owe the barriers nothing. -/
theorem owedR_bar (d c : Dev nD) (l : List (Fin 4)) : owedR d l (barCell c) () = 0 := by
  induction l with
  | nil => rfl
  | cons j l ih =>
    unfold owedR
    rw [Pi.add_apply, Finsupp.add_apply, ih, tallyAt_ne_cell (fun h => recv_ne_bar j (congrArg Prod.snd h).symm), Finsupp.zero_apply, Nat.add_zero]

/-- All devices together owe a barrier cell one unit per round, a receive cell its round's credit. -/
theorem sum_bar (c : Dev nD) (l : List (Fin 4)) : ∑ d : Dev nD, owedB d l (barCell c) () = l.length := by
  induction l with
  | nil => exact Finset.sum_eq_zero fun d _ => owedR_bar d c _
  | cons j l ih =>
    unfold owedB
    simp only [Pi.add_apply, Finsupp.add_apply]
    rw [Finset.sum_add_distrib, ih, List.length_cons]
    refine congrArg (l.length + ·) ?_
    rw [Finset.sum_congr rfl fun d _ => show tallyAt (barCell (pt j d)) () 1 (barCell c) () = if d = pt j c then 1 else 0 by
      rw [tallyAt_apply]
      by_cases h : d = pt j c
      · subst h; rw [pt_pt, if_pos ⟨rfl, rfl⟩, if_pos rfl]
      · rw [if_neg (fun h' => h ((pt_eq_iff j c d).mp (bar_eq_iff.mp h'.1).symm)), if_neg h]]
    rw [Finset.sum_ite_eq' Finset.univ (pt j c) fun _ => 1, if_pos (Finset.mem_univ _)]

/-- What is owed a receive semaphore is what the rounds owe it. -/
theorem owedB_recv (d c : Dev nD) (i : Fin 4) (l : List (Fin 4)) : owedB d l (recvCell i c) () = owedR d [0, 1, 2, 3] (recvCell i c) () := by
  induction l with
  | nil => rfl
  | cons j l ih =>
    rw [← ih]
    conv_lhs => unfold owedB
    rw [Pi.add_apply, Finsupp.add_apply, tallyAt_ne_cell (fun h => recv_ne_bar i (congrArg Prod.snd h)), Finsupp.zero_apply, Nat.add_zero]

/-- All devices together owe a receive semaphore one transfer for each round listed that is its own. -/
theorem sum_recv (c : Dev nD) (i : Fin 4) (l : List (Fin 4)) : ∑ d : Dev nD, owedR d l (recvCell i c) () = l.count i * N i := by
  induction l with
  | nil => rw [List.count_nil, Nat.zero_mul]; exact Finset.sum_eq_zero fun d _ => rfl
  | cons j l ih =>
    unfold owedR
    simp only [Pi.add_apply, Finsupp.add_apply]
    rw [Finset.sum_add_distrib, ih]
    by_cases hj : j = i
    · subst hj
      rw [List.count_cons_self, Nat.add_mul, Nat.one_mul]
      refine congrArg (List.count j l * N j + ·) ?_
      rw [Finset.sum_congr rfl fun d _ => show tallyAt (recvCell j (pt j d)) () (N j) (recvCell j c) () = if d = pt j c then N j else 0 by
        rw [tallyAt_apply]
        by_cases h : d = pt j c
        · subst h; rw [pt_pt, if_pos ⟨rfl, rfl⟩, if_pos rfl]
        · rw [if_neg (fun h' => h ((pt_eq_iff j c d).mp (recv_eq_iff.mp h'.1).2.symm)), if_neg h]]
      rw [Finset.sum_ite_eq' Finset.univ (pt j c) fun _ => N j, if_pos (Finset.mem_univ _)]
    · rw [List.count_cons_of_ne hj]
      rw [Finset.sum_eq_zero fun d _ => show tallyAt (recvCell j (pt j d)) () (N j) (recvCell i c) () = 0 by
        rw [tallyAt_apply, if_neg (fun h' => hj (recv_eq_iff.mp h'.1).1.symm)], Nat.add_zero]

/-- What all devices together owe a cell at the launch. -/
theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same]
  exact sum_bar c [0, 1, 2, 3]

/-- What all devices together owe a cell at the launch. -/
theorem launch_recv (i : Fin 4) (c : Dev nD) :
    tallyOn (recvCell i c) (launchCredit (Pipeline.owing O₀) 0 (recvCell i c)) = (tallyAt (recvCell i c) () (N i) : CellTallies nD τ sig Unit) := by
  unfold tallyAt; refine congrArg _ (Finsupp.ext fun u => ?_); cases u
  rw [Pipeline.launchCredit_owing, Finsupp.single_eq_same]
  refine (Finset.sum_congr rfl fun d _ => owedB_recv d c i [0, 1, 2, 3]).trans ((sum_recv c i [0, 1, 2, 3]).trans ?_)
  rw [show List.count i [0, 1, 2, 3] = 1 by revert i; decide, Nat.one_mul]

/-- The cells a device has credit on at launch. -/
def credCells : List (SemLoc sig) := [.reg barS, .dma (recvS 0), .dma (recvS 1), .dma (recvS 2), .dma (recvS 3)]
/-- The cells waited for are different. -/
theorem credCells_nodup : credCells.Nodup := by decide +kernel

omit [FloatOps F] in
/-- The credits a device waits for, from the launch. -/
theorem creds (c : Dev nD) : (Pipeline.launchCred O₀ c : sProp 𝕄) ⊢ crds c := by
  unfold Pipeline.launchCred crds
  rw [← launch_bar, ← launch_recv, ← launch_recv, ← launch_recv, ← launch_recv]
  have h (Φ : SemLoc sig → sProp 𝕄) : bigSep Finset.univ Φ ⊢ iprop(Φ (.reg barS) ∗ Φ (.dma (recvS 0)) ∗ Φ (.dma (recvS 1)) ∗ Φ (.dma (recvS 2)) ∗ Φ (.dma (recvS 3))) := by
    have e : bigSep credCells.toFinset Φ = iprop(Φ (.reg barS) ∗ Φ (.dma (recvS 0)) ∗ Φ (.dma (recvS 1)) ∗ Φ (.dma (recvS 2)) ∗ Φ (.dma (recvS 3))) :=
      bigSep_eq_bigSepL_of_eq credCells rfl credCells_nodup Φ
    rw [← e]; exact bigSep_subset (Finset.subset_univ _)
  exact h fun sm => cred (tallyOn ((c : Thread nD τ), sm) (launchCredit (Pipeline.owing O₀) 0 ((c : Thread nD τ), sm)))

/-! ### The theorem's side conditions -/

/-- What a device has before its body. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- What the body begins with. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, ⟨%f, Hr⟩⟩
  isplitl [Hs]; · iexact Hs
  iexists f; iexact Hr

/-- What the body ends with gives back the buffers and the semaphores at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ zeros scr
  iintro ⟨Hr, ⟨⟨S0, S1, S2, S3⟩, HV⟩, HzB⟩
  isplitl [HzB]; · iexact HzB
  isplitl [S0 S1 S2 S3 HV]
  · isplitl [S0]; · iexact S0
    isplitl [S1]; · iexact S1
    isplitl [S2]; · iexact S2
    isplitl [S3]; · iexact S3
    iexact HV
  iexists (J3 m ρ c); iexact Hr

/-- The staging waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution terminates, and every final state
    has each window's array at its final contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand's array after the run holds what it held. -/
theorem finalA_x (c : Dev nD) : finalA m ρ c (0 : Fin 2) = m ((c : Thread nD τ).loc main_arg0) :=
  (dats (F := F) m ρ 0 c).arrAt_in (0 : Fin 2) rfl _

end Cert.KernelIdeal.Sort

end
-- ==== Proof.Frames.lean ====
/-
# The frames

Each of the three programs runs to its end from any memory, leaves its argument as it was, and ends with every semaphore
at zero.
-/
module

public import proofs.«01_k».proof.Defs
public import proofs.«01_k».proof.Proof.Run
public import proofs.«01_k».proof.Proof.RunIdeal
public import proofs.«01_k».proof.Proof.Gen.ReferenceIdeal.Run

@[expose] public section

noncomputable section

namespace Cert.Proof

open Idealize.ShloMosaic Idealize.SL.Sem

/-- The kernel as printed, on machine floats. -/
theorem frame_kernel : Cert.quiescent_Kernel (hKernel := Cert.Kernel.Gen.facts) := fun m ρ _ =>
  (θ_run Cert.Kernel.defs _ _).mono (fun _ h => ⟨fun c => (h.1 c 0).trans (Cert.Kernel.Sort.finalA_x m ρ c), h.2⟩)
    (Cert.Kernel.Sort.run_main (F := Bits) m ρ)

/-- The kernel read on extended reals. -/
theorem frame_kernelIdeal : Cert.quiescent_KernelIdeal (hKernelIdeal := Cert.KernelIdeal.Gen.facts) := fun m ρ _ =>
  (θ_run Cert.KernelIdeal.defs _ _).mono (fun _ h => ⟨fun c => (h.1 c 0).trans (Cert.KernelIdeal.Sort.finalA_x m ρ c), h.2⟩)
    (Cert.KernelIdeal.Sort.run_main (F := Ideal) m ρ)

/-- The reference: it has no semaphore, and its one operation writes the result only. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Net.lean ====
/-
# The sorting network on rows numbered by natural numbers

A table of rows is a function of a row number and a column. One exchange at distance `2 ^ s` on level `l` compares every row
with the row whose number differs in bit `s`; which of the two takes the lesser entry is read off bits `s` and `l + 1` of the
row number. All the exchanges of twelve levels sort each column of 4096 rows: they are the library's bitonic network.
-/
module

public import Idealize.ShloMosaic.Lib.SortNet.Sorts
public import Mathlib.Data.Nat.Bitwise

@[expose] public section

namespace Cert.Net

open Idealize.ShloMosaic.SortNet

variable {α : Type} [LinearOrder α] {κ : Type}

/-- One exchange: distance `2 ^ s`, directions of level `l`. -/
def cx (l s : ℕ) (f : ℕ → κ → α) : ℕ → κ → α := fun i k =>
  if i.testBit s = i.testBit (l + 1) then min (f i k) (f (i ^^^ 2 ^ s) k) else max (f i k) (f (i ^^^ 2 ^ s) k)

/-- The exchanges at the distances listed, first to last. -/
def run (l : ℕ) (ss : List ℕ) (f : ℕ → κ → α) : ℕ → κ → α := ss.foldl (fun f s => cx l s f) f

/-- The distances of a level: the greatest first. -/
def down (l : ℕ) : List ℕ := (List.range (l + 1)).reverse

/-- The table after the levels below `l`. -/
def upto (f : ℕ → κ → α) : ℕ → ℕ → κ → α
  | 0 => f
  | l + 1 => run l (down l) (upto f l)

/-- Exchanges one list after another. -/
theorem run_append (l : ℕ) (ss ts : List ℕ) (f : ℕ → κ → α) : run l (ss ++ ts) f = run l ts (run l ss f) :=
  List.foldl_append

/-! ## The library's network does the same -/

/-- A bit is clear if masking it out leaves zero. -/
theorem and_two_pow_eq_zero (i s : ℕ) : i &&& 2 ^ s = 0 ↔ i.testBit s = false := by
  rw [Nat.and_two_pow]
  cases i.testBit s <;> simp

/-- One stage of the library's network is one exchange. -/
theorem apply_stage_eq {p l s : ℕ} (hs : s < p) (f : ℕ → κ → α) (k : κ) (hl : s ≤ l) :
    Network.apply (stage p s fun i => (decide (i.val &&& 2 ^ (l + 1) = 0)) == false) (fun i => f i.val k)
      = fun i => cx l s f i.val k := by
  have hw : ∀ i : Fin (2 ^ p), ((decide (i.val &&& 2 ^ (l + 1) = 0)) == false) = i.val.testBit (l + 1) := by
    intro i
    rw [Nat.and_two_pow]
    cases i.val.testBit (l + 1) <;> simp
  have hflip : ∀ i : ℕ, (i ^^^ 2 ^ s).testBit (l + 1) = i.testBit (l + 1) := by
    intro i
    rw [Nat.testBit_xor, Nat.testBit_two_pow, decide_eq_false (by omega), Bool.xor_false]
  funext i
  by_cases hi : i.val &&& 2 ^ s = 0
  · rw [(apply_stage hs _ _ i hi).1, hw, partner_val hs]
    have hb := (and_two_pow_eq_zero _ _).1 hi
    unfold cx
    rw [hb]
    cases i.val.testBit (l + 1) <;> simp
  · have e := (apply_stage hs (fun i => (decide (i.val &&& 2 ^ (l + 1) = 0)) == false) (fun i => f i.val k) (partner p s i)
      (partner_and_of_set hs i hi)).2
    rw [partner_partner hs] at e
    rw [e, hw, partner_val hs, hflip]
    have hb : i.val.testBit s = true := by
      by_contra h
      exact hi ((and_two_pow_eq_zero _ _).2 (by simpa using h))
    unfold cx
    rw [hb]
    cases i.val.testBit (l + 1) <;> simp [min_comm, max_comm]

/-- Networks one after another. -/
theorem apply_flatMap {ι : Type} {n : ℕ} (L : List ι) (N : ι → Network n) (v : Fin n → α) :
    Network.apply (L.flatMap N) v = L.foldl (fun v x => Network.apply (N x) v) v := by
  induction L generalizing v with
  | nil => rfl
  | cons x L ih => rw [List.flatMap_cons, Network.apply_append, ih]; rfl

/-- A level of the library's network is the exchanges of that level. -/
theorem apply_level {p l : ℕ} (ss : List ℕ) (hss : ∀ s ∈ ss, s < p ∧ s ≤ l) (f : ℕ → κ → α) (k : κ) :
    Network.apply (ss.flatMap fun s => stage p s fun i => (decide (i.val &&& 2 ^ (l + 1) = 0)) == false) (fun i => f i.val k)
      = fun i => run l ss f i.val k := by
  induction ss generalizing f with
  | nil => rfl
  | cons s ss ih =>
    rw [List.flatMap_cons, Network.apply_append, apply_stage_eq (hss s List.mem_cons_self).1 f k (hss s List.mem_cons_self).2]
    exact ih (fun t ht => hss t (List.mem_cons_of_mem s ht)) (cx l s f)

/-- All the levels of the library's network, one after the other. -/
theorem apply_sortNet (p : ℕ) (f : ℕ → κ → α) (k : κ) :
    Network.apply (sortNet p false) (fun i => f i.val k) = fun i => upto f p i.val k := by
  have key : ∀ n ≤ p, Network.apply ((List.range n).flatMap fun l => (List.range (l + 1)).reverse.flatMap fun s =>
      stage p s fun i => (decide (i.val &&& 2 ^ (l + 1) = 0)) == false) (fun i => f i.val k) = fun i => upto f n i.val k := by
    intro n hn
    induction n with
    | zero => rfl
    | succ n ih =>
      rw [List.range_succ, List.flatMap_append, Network.apply_append, ih (by omega), List.flatMap_cons, List.flatMap_nil,
        List.append_nil]
      exact apply_level (down n) (fun s hs => by
        have := List.mem_range.1 (List.mem_reverse.1 hs); omega) (upto f n) k
  exact key p le_rfl

/-- After all its levels every column is in order, -/
theorem upto_monotone (p : ℕ) (f : ℕ → κ → α) (k : κ) : Monotone fun i : Fin (2 ^ p) => upto f p i.val k := by
  rw [← apply_sortNet p f k]
  exact sortNet_apply_monotone p _

/-- and holds the entries it held. -/
theorem upto_perm (p : ℕ) (f : ℕ → κ → α) (k : κ) :
    ∃ σ : Equiv.Perm (Fin (2 ^ p)), (fun i : Fin (2 ^ p) => upto f p i.val k) = (fun i => f i.val k) ∘ σ := by
  rw [← apply_sortNet p f k]
  exact Network.exists_perm _ _

end Cert.Net
-- ==== Proof.Stage.lean ====
/-
# What one exchange of the kernel computes

The kernel splits its rows into groups of `2 * j`, takes the lesser and the greater of the two halves of each group, and puts
them back in the order a mask or a flag says. On extended reals that is one exchange of the network, on the rows it holds.
-/
module

public import proofs.«01_k».proof.Proof.Net
public import Idealize.ShloMosaic.Lib.ValueLayout
public import Idealize.ShloMosaic.Lib.ShapeFacts
public import Idealize.ShloMosaic.Lib.ValueIdx
public import Idealize.ShloMosaic.PureOps.Ideal

@[expose] public section

noncomputable section

namespace Cert.Stage

open Idealize.ShloMosaic Idealize.ShloMosaic.ValueIdx Cert.Net

/-! ## The printed operations -/

abbrev M2 (n : ℕ) : Shape := ⟨2, ![n, 128]⟩
abbrev M3 (G j : ℕ) : Shape := ⟨3, ![G, j, 128]⟩
abbrev M4 (G a j : ℕ) : Shape := ⟨4, ![G, a, j, 128]⟩

section Ops

variable {α : Type} {G j n : ℕ}

/-- The casts of an exchange keep the number of elements. -/
theorem casts_split (hn : n = G * (2 * j)) : (M2 n).ShapeCasts (M4 G 2 j) := by
  show (M4 G 2 j).numel = (M2 n).numel
  rw [Shape.numel_rank4, Shape.numel_rank2]
  subst hn
  show G * 2 * j * 128 = G * (2 * j) * 128
  ring

/-- The casts of an exchange keep the number of elements. -/
theorem casts_drop (G j : ℕ) : (M4 G 1 j).ShapeCasts (M3 G j) := by
  show (M3 G j).numel = (M4 G 1 j).numel
  rw [Shape.numel_rank4, Shape.numel_rank3]
  show G * j * 128 = G * 1 * j * 128
  ring

/-- The casts of an exchange keep the number of elements. -/
theorem casts_add (G j : ℕ) : (M3 G j).ShapeCasts (M4 G 1 j) := by
  show (M4 G 1 j).numel = (M3 G j).numel
  rw [Shape.numel_rank4, Shape.numel_rank3]
  show G * 1 * j * 128 = G * j * 128
  ring

/-- The casts of an exchange keep the number of elements. -/
theorem casts_join (hn : n = G * (2 * j)) : (M4 G 2 j).ShapeCasts (M2 n) := (casts_split hn).symm

/-- A half of each group is a slice of it. -/
theorem slices_half (G j : ℕ) {h : ℕ} (hh : h < 2) : (M4 G 2 j).Slices ![0, h, 0, 0] (M4 G 1 j) := by
  refine ⟨rfl, fun a => ?_⟩
  match a with
  | ⟨0, _⟩ => exact Nat.le_of_eq (Nat.zero_add _)
  | ⟨1, _⟩ => exact hh
  | ⟨2, _⟩ => exact Nat.le_of_eq (Nat.zero_add _)
  | ⟨3, _⟩ => exact Nat.le_of_eq (Nat.zero_add _)

/-- Half `h` of every group of `2 * j` rows. -/
def half (hn : n = G * (2 * j)) (h : ℕ) (hh : h < 2) (v : (M2 n).Idx → α) : (M3 G j).Idx → α :=
  shapeCast (M3 G j) (extractStridedSlice (M4 G 1 j) ![0, h, 0, 0] (shapeCast (M4 G 2 j) v (casts_split hn)) (slices_half G j hh))
    (casts_drop G j)

/-- The halves put back. -/
def join (hn : n = G * (2 * j)) (a b : (M3 G j).Idx → α) : (M2 n).Idx → α :=
  shapeCast (M2 n) (concatenate (M4 G 2 j) 1 [⟨M4 G 1 j, shapeCast (M4 G 1 j) a (casts_add G j)⟩,
    ⟨M4 G 1 j, shapeCast (M4 G 1 j) b (casts_add G j)⟩] (Shape.concatenates_axis1_rank4 G 1 1 j 128)) (casts_join hn)

/-- Row `r` of half `h` of group `g` is row `g * (2 * j) + (h * j + r)`. -/
theorem row_lt (hn : n = G * (2 * j)) {h : ℕ} (hh : h < 2) (g : Fin G) (r : Fin j) : g.val * (2 * j) + (h * j + r.val) < n := by
  subst hn
  have hr := r.isLt
  calc g.val * (2 * j) + (h * j + r.val) < g.val * (2 * j) + 2 * j := by nlinarith
    _ = (g.val + 1) * (2 * j) := by ring
    _ ≤ G * (2 * j) := Nat.mul_le_mul_right _ g.isLt

/-- A half's rows are rows of the whole. -/
theorem half_apply (hn : n = G * (2 * j)) {h : ℕ} (hh : h < 2) (v : (M2 n).Idx → α) (g : Fin G) (r : Fin j) (k : Fin 128) :
    half hn h hh v (ix3 g r k) = v (ix2 ⟨g.val * (2 * j) + (h * j + r.val), row_lt hn hh g r⟩ k) := by
  unfold half
  rw [shapeCast_apply _ _ (ix3 g r k) (ix4 g (0 : Fin 1) r k) (by
      rw [Shape.rowMajor_val_three, Shape.rowMajor_val_four]
      show ((g.val * 1 + 0) * j + r.val) * 128 + k.val = (g.val * j + r.val) * 128 + k.val
      rw [Nat.mul_one, Nat.add_zero]),
    slice4_axis1_apply h _ _ g (0 : Fin 1) r k ⟨h, hh⟩ rfl]
  exact shapeCast_apply _ _ _ _ (by
    rw [Shape.rowMajor_val_four, Shape.rowMajor_val_two]
    show (g.val * (2 * j) + (h * j + r.val)) * 128 + k.val = ((g.val * 2 + h) * j + r.val) * 128 + k.val
    ring)

/-- The rows of the joined halves are rows of the halves. -/
theorem join_apply (hn : n = G * (2 * j)) {h : ℕ} (hh : h < 2) (a b : (M3 G j).Idx → α) (g : Fin G) (r : Fin j) (k : Fin 128) :
    join hn a b (ix2 ⟨g.val * (2 * j) + (h * j + r.val), row_lt hn hh g r⟩ k) = if h = 0 then a (ix3 g r k) else b (ix3 g r k) := by
  unfold join
  have cast_eq : ∀ w : (M3 G j).Idx → α, shapeCast (M4 G 1 j) w (casts_add G j) (ix4 g (0 : Fin 1) r k) = w (ix3 g r k) := fun w =>
    shapeCast_apply _ _ _ _ (by
      rw [Shape.rowMajor_val_three, Shape.rowMajor_val_four]
      show (g.val * j + r.val) * 128 + k.val = ((g.val * 1 + 0) * j + r.val) * 128 + k.val
      rw [Nat.mul_one, Nat.add_zero])
  rw [shapeCast_apply _ _ _ (ix4 g (⟨h, hh⟩ : Fin 2) r k) (by
      rw [Shape.rowMajor_val_four, Shape.rowMajor_val_two]
      show ((g.val * 2 + h) * j + r.val) * 128 + k.val = (g.val * (2 * j) + (h * j + r.val)) * 128 + k.val
      ring)]
  obtain rfl | rfl : h = 0 ∨ h = 1 := by omega
  · rw [if_pos rfl, ← cast_eq a]
    refine concatenate_pair_apply_left (t := M4 G 2 j) (s₁ := M4 G 1 j) (s₂ := M4 G 1 j) 1 _ _ _ _ rfl (ix4 g (0 : Fin 1) r k) fun c => ?_
    match c with
    | ⟨0, _⟩ => rfl
    | ⟨1, _⟩ => rfl
    | ⟨2, _⟩ => rfl
    | ⟨3, _⟩ => rfl
  · rw [if_neg (by decide), ← cast_eq b]
    refine concatenate_pair_apply_right (t := M4 G 2 j) (s₁ := M4 G 1 j) (s₂ := M4 G 1 j) 1 _ _ _ _ rfl rfl (ix4 g (0 : Fin 1) r k) (fun c hc => ?_) rfl
    match c, hc with
    | ⟨0, _⟩, _ => rfl
    | ⟨1, _⟩, hc => exact absurd rfl hc
    | ⟨2, _⟩, _ => rfl
    | ⟨3, _⟩, _ => rfl

/-- Every row is a row of a half of a group. -/
theorem row_cases (hn : n = G * (2 * j)) (i : Fin n) :
    ∃ (h : ℕ) (hh : h < 2) (g : Fin G) (r : Fin j), i = ⟨g.val * (2 * j) + (h * j + r.val), row_lt hn hh g r⟩ := by
  have hi := i.isLt
  have hj : 0 < j := Nat.pos_of_ne_zero fun e => by subst e; omega
  have h1 : i.val % (2 * j) < 2 * j := Nat.mod_lt _ (by omega)
  refine ⟨i.val % (2 * j) / j, Nat.div_lt_of_lt_mul (by rw [Nat.mul_comm j 2]; exact h1), ⟨i.val / (2 * j), ?_⟩, ⟨i.val % (2 * j) % j, Nat.mod_lt _ hj⟩, Fin.ext ?_⟩
  · exact Nat.div_lt_of_lt_mul (by rw [Nat.mul_comm]; omega)
  · show i.val = i.val / (2 * j) * (2 * j) + (i.val % (2 * j) / j * j + i.val % (2 * j) % j)
    rw [Nat.div_add_mod' (i.val % (2 * j)) j, Nat.div_add_mod' i.val (2 * j)]

variable {F : FTy → Type} [FloatOps F]

/-- An exchange whose order a mask says. -/
def stageV (hn : n = G * (2 * j)) (mask : IVec (M3 G j) 1) (v : FVec F (M2 n) .bf16) : FVec F (M2 n) .bf16 :=
  join hn
    (select mask (maximumf (half hn 0 (by decide) v) (half hn 1 (by decide) v)) (minimumf (half hn 0 (by decide) v) (half hn 1 (by decide) v)))
    (select mask (minimumf (half hn 0 (by decide) v) (half hn 1 (by decide) v)) (maximumf (half hn 0 (by decide) v) (half hn 1 (by decide) v)))

/-- An exchange whose order one flag says. -/
def stageS (hn : n = G * (2 * j)) (c : BitVec 1) (v : FVec F (M2 n) .bf16) : FVec F (M2 n) .bf16 :=
  join hn
    (Scalar.select c (maximumf (half hn 0 (by decide) v) (half hn 1 (by decide) v) : FVec F (M3 G j) .bf16) (minimumf (half hn 0 (by decide) v) (half hn 1 (by decide) v)))
    (Scalar.select c (minimumf (half hn 0 (by decide) v) (half hn 1 (by decide) v) : FVec F (M3 G j) .bf16) (maximumf (half hn 0 (by decide) v) (half hn 1 (by decide) v)))

/-- A half of all the rows is a slice of them. -/
theorem slices_top {h n : ℕ} (hn : n = 2 * h) : (M2 n).Slices ![0, 0] (M2 h) := by
  refine ⟨rfl, fun a => ?_⟩
  match a with
  | ⟨0, _⟩ => show 0 + h ≤ n; omega
  | ⟨1, _⟩ => exact Nat.le_of_eq (Nat.zero_add _)

/-- A half of all the rows is a slice of them. -/
theorem slices_bottom {h n : ℕ} (hn : n = 2 * h) : (M2 n).Slices ![h, 0] (M2 h) := by
  refine ⟨rfl, fun a => ?_⟩
  match a with
  | ⟨0, _⟩ => show h + h ≤ n; omega
  | ⟨1, _⟩ => exact Nat.le_of_eq (Nat.zero_add _)

/-- The lesser or the greater of the two halves of all the rows. -/
def keep (h : ℕ) (hn : n = 2 * h) (c : BitVec 1) (v : FVec F (M2 n) .bf16) : FVec F (M2 h) .bf16 :=
  Scalar.select c
    (maximumf (extractStridedSlice (M2 h) ![0, 0] v (slices_top hn)) (extractStridedSlice (M2 h) ![h, 0] v (slices_bottom hn)) : FVec F (M2 h) .bf16)
    (minimumf (extractStridedSlice (M2 h) ![0, 0] v (slices_top hn)) (extractStridedSlice (M2 h) ![h, 0] v (slices_bottom hn)))

/-- The group numbers the mask is made of. -/
theorem iotas_groups (G : ℕ) : (⟨3, ![G, 1, 1]⟩ : Shape).Iotas .tc 32 [0] :=
  ⟨List.nodup_singleton _, fun _ => ⟨Or.inr rfl, (show 2 ≤ 3 by decide)⟩, fun h => absurd rfl h⟩

/-- A group's bit is spread over the group. -/
theorem broadcasts_groups (G j : ℕ) : (⟨3, ![G, 1, 1]⟩ : Shape).Broadcasts (M3 G j) := by
  refine ⟨le_refl _, fun a => ?_⟩
  match a with
  | ⟨0, _⟩ => exact Or.inr fun _ => rfl
  | ⟨1, _⟩ => exact Or.inl rfl
  | ⟨2, _⟩ => exact Or.inl rfl

/-- The mask the kernel computes: bit `sh` of the group's number, the other way round if `ex` is one. -/
def groupMask (G j : ℕ) (sh ex : BitVec 32) : IVec (M3 G j) 1 :=
  broadcastTo (M3 G j) (shapeCast ⟨3, ![G, 1, 1]⟩ (cmpi .eq
    (xori (andi (shrsi (iota .tc ⟨3, ![G, 1, 1]⟩ 32 [0] (iotas_groups G)) (broadcast ⟨3, ![G, 1, 1]⟩ sh)) (broadcast ⟨3, ![G, 1, 1]⟩ 1#32))
      (broadcast ⟨3, ![G, 1, 1]⟩ ex)) (broadcast ⟨3, ![G, 1, 1]⟩ 1#32)) rfl) (broadcasts_groups G j)

/-- The exchange at distance `2 ^ s` under the mask the kernel computes. -/
def maskStep (n : ℕ) (sh ex : BitVec 32) (s : ℕ) (v : FVec F (M2 n) .bf16) : FVec F (M2 n) .bf16 :=
  if h : n = n / (2 * 2 ^ s) * (2 * 2 ^ s) then stageV h (groupMask _ _ sh ex) v else v

/-- The exchange at distance `2 ^ s` under one flag. -/
def flagStep (n : ℕ) (c : BitVec 1) (s : ℕ) (v : FVec F (M2 n) .bf16) : FVec F (M2 n) .bf16 :=
  if h : n = n / (2 * 2 ^ s) * (2 * 2 ^ s) then stageS h c v else v

end Ops

/-! ## The bits of a row number -/

section Bits

/-- The bit an exchange flips is clear in the lower half of a group and set in the upper. -/
theorem testBit_low (s m r : ℕ) (hr : r < 2 ^ s) : (2 * 2 ^ s * m + r).testBit s = false := by
  rw [Nat.testBit_eq_decide_div_mod_eq, show 2 * 2 ^ s * m + r = r + 2 ^ s * (2 * m) by ring,
    Nat.add_mul_div_left _ _ (Nat.two_pow_pos s), Nat.div_eq_of_lt hr]
  simp

/-- The bit an exchange flips is clear in the lower half of a group and set in the upper. -/
theorem testBit_high (s m r : ℕ) (hr : r < 2 ^ s) : (2 * 2 ^ s * m + (2 ^ s + r)).testBit s = true := by
  rw [Nat.testBit_eq_decide_div_mod_eq, show 2 * 2 ^ s * m + (2 ^ s + r) = r + 2 ^ s * (2 * m + 1) by ring,
    Nat.add_mul_div_left _ _ (Nat.two_pow_pos s), Nat.div_eq_of_lt hr]
  simp [Nat.add_mod]

/-- Flipping that bit leads from one half of the group to the other. -/
theorem xor_low (s m r : ℕ) (hr : r < 2 ^ s) : (2 * 2 ^ s * m + r) ^^^ 2 ^ s = 2 * 2 ^ s * m + (2 ^ s + r) := by
  rw [SortNet.xor_two_pow_of_clear _ s ((and_two_pow_eq_zero _ _).2 (testBit_low s m r hr))]
  ring

/-- Flipping that bit leads from one half of the group to the other. -/
theorem xor_high (s m r : ℕ) (hr : r < 2 ^ s) : (2 * 2 ^ s * m + (2 ^ s + r)) ^^^ 2 ^ s = 2 * 2 ^ s * m + r := by
  rw [← xor_low s m r hr, Nat.xor_assoc, Nat.xor_self, Nat.xor_zero]

/-- A bit above the group's size is the group's. -/
theorem testBit_group {l s : ℕ} (hsl : s ≤ l) (m y : ℕ) (hy : y < 2 * 2 ^ s) :
    (2 * 2 ^ s * m + y).testBit (l + 1) = (2 * 2 ^ s * m).testBit (l + 1) := by
  have e : l + 1 = (s + 1) + (l - s) := by omega
  have hp : 2 * 2 ^ s = 2 ^ (s + 1) := by rw [pow_succ]; ring
  rw [e, Nat.add_comm (s + 1), ← Nat.testBit_div_two_pow, ← Nat.testBit_div_two_pow, hp, Nat.mul_add_div (Nat.two_pow_pos _),
    Nat.div_eq_of_lt (by rw [← hp]; exact hy), Nat.mul_div_cancel_left _ (Nat.two_pow_pos _), Nat.add_zero]

end Bits

/-! ## On extended reals -/

variable {n G j : ℕ}

/-- The rows of `v` are the rows of the table `f` from `base` on. -/
def Rows (base : ℕ) (v : FVec Ideal (M2 n) .bf16) (f : ℕ → Fin 128 → EReal) : Prop :=
  ∀ (i : Fin n) (k : Fin 128), v (ix2 i k) = f (base + i.val) k

/-- A choice, element by element. -/
theorem scalar_select_apply {ι β : Type} (c : BitVec 1) (a b : ι → β) (i : ι) :
    Scalar.select c a b i = if c = 1#1 then a i else b i := by
  by_cases h : c = 1#1
  · rw [if_pos h]; exact congrFun (if_pos h) i
  · rw [if_neg h]; exact congrFun (if_neg h) i

/-- A choice, element by element. -/
theorem vector_select_apply {s : Shape} {β : Type} (c : IVec s 1) (a b : s.Idx → β) (i : s.Idx) :
    select c a b i = if c i = 1#1 then a i else b i := rfl

/-- What an exchange of the kernel does with two halves of a group, once it is known what order they are put back in. -/
theorem rows_join {base l s : ℕ} (hn : n = G * (2 * j)) (hj : j = 2 ^ s) (hb : 2 * j ∣ base) (hsl : s ≤ l)
    (v : FVec Ideal (M2 n) .bf16) (f : ℕ → Fin 128 → EReal) (hv : Rows base v f) (a b : FVec Ideal (M3 G j) .bf16)
    (ha : ∀ g r k, a (ix3 g r k) = if (base + g.val * (2 * j)).testBit (l + 1) then max (half hn 0 (by decide) v (ix3 g r k) : EReal) (half hn 1 (by decide) v (ix3 g r k))
      else min (half hn 0 (by decide) v (ix3 g r k) : EReal) (half hn 1 (by decide) v (ix3 g r k)))
    (hb' : ∀ g r k, b (ix3 g r k) = if (base + g.val * (2 * j)).testBit (l + 1) then min (half hn 0 (by decide) v (ix3 g r k) : EReal) (half hn 1 (by decide) v (ix3 g r k))
      else max (half hn 0 (by decide) v (ix3 g r k) : EReal) (half hn 1 (by decide) v (ix3 g r k))) :
    Rows base (join hn a b : FVec Ideal (M2 n) .bf16) (cx l s f) := by
  intro i k
  obtain ⟨h, hh, g, r, rfl⟩ := row_cases hn i
  rw [join_apply hn hh, ha, hb', half_apply, half_apply, hv, hv]
  obtain ⟨q, rfl⟩ := hb
  subst hj
  have hr := r.isLt
  have e0 : 2 * 2 ^ s * q + (g.val * (2 * 2 ^ s) + (0 * 2 ^ s + r.val)) = 2 * 2 ^ s * (q + g.val) + r.val := by ring
  have e1 : 2 * 2 ^ s * q + (g.val * (2 * 2 ^ s) + (1 * 2 ^ s + r.val)) = 2 * 2 ^ s * (q + g.val) + (2 ^ s + r.val) := by ring
  have eg : 2 * 2 ^ s * q + g.val * (2 * 2 ^ s) = 2 * 2 ^ s * (q + g.val) := by ring
  rw [eg]
  obtain rfl | rfl : h = 0 ∨ h = 1 := by omega
  · rw [if_pos rfl]
    show _ = cx l s f (2 * 2 ^ s * q + (g.val * (2 * 2 ^ s) + (0 * 2 ^ s + r.val))) k
    simp only [e0, e1]
    unfold cx
    rw [testBit_low s _ _ hr, testBit_group hsl _ _ (by omega), xor_low s _ _ hr]
    cases (2 * 2 ^ s * (q + g.val)).testBit (l + 1) <;> simp
  · rw [if_neg (by decide)]
    show _ = cx l s f (2 * 2 ^ s * q + (g.val * (2 * 2 ^ s) + (1 * 2 ^ s + r.val))) k
    simp only [e0, e1]
    unfold cx
    rw [testBit_high s _ _ hr, testBit_group hsl _ _ (by omega), xor_high s _ _ hr]
    cases (2 * 2 ^ s * (q + g.val)).testBit (l + 1) <;> simp [min_comm, max_comm]

/-- An exchange under a mask is an exchange of the network, if the mask is the direction bit of the group's row numbers. -/
theorem rows_stageV {base l s : ℕ} (hn : n = G * (2 * j)) (hj : j = 2 ^ s) (hb : 2 * j ∣ base) (hsl : s ≤ l)
    (mask : IVec (M3 G j) 1) (hm : ∀ g r k, mask (ix3 g r k) = 1#1 ↔ (base + g.val * (2 * j)).testBit (l + 1) = true)
    (v : FVec Ideal (M2 n) .bf16) (f : ℕ → Fin 128 → EReal) (hv : Rows base v f) :
    Rows base (stageV hn mask v) (cx l s f) := by
  refine rows_join hn hj hb hsl v f hv _ _ (fun g r k => ?_) (fun g r k => ?_) <;>
  · rw [vector_select_apply]
    by_cases h : (base + g.val * (2 * j)).testBit (l + 1) = true
    · rw [if_pos ((hm g r k).2 h), if_pos h]; rfl
    · rw [if_neg fun e => h ((hm g r k).1 e), if_neg h]; rfl

/-- The same under one flag. -/
theorem rows_stageS {base l s : ℕ} (hn : n = G * (2 * j)) (hj : j = 2 ^ s) (hb : 2 * j ∣ base) (hsl : s ≤ l)
    (c : BitVec 1) (hc : ∀ g < G, c = 1#1 ↔ (base + g * (2 * j)).testBit (l + 1) = true)
    (v : FVec Ideal (M2 n) .bf16) (f : ℕ → Fin 128 → EReal) (hv : Rows base v f) :
    Rows base (stageS hn c v) (cx l s f) := by
  refine rows_join hn hj hb hsl v f hv _ _ (fun g r k => ?_) (fun g r k => ?_) <;>
  · rw [scalar_select_apply]
    by_cases h : (base + g.val * (2 * j)).testBit (l + 1) = true
    · rw [if_pos ((hc g g.isLt).2 h), if_pos h]; rfl
    · rw [if_neg fun e => h ((hc g g.isLt).1 e), if_neg h]; rfl

/-- Keeping one half of the rows is an ascending exchange of the network, read on the half that is kept. -/
theorem rows_keep {base l s h : ℕ} (hn : n = 2 * h) (hh : h = 2 ^ s) (hb : 2 * h ∣ base) (hsl : s ≤ l)
    (hl : base.testBit (l + 1) = false) (c : BitVec 1)
    (v : FVec Ideal (M2 n) .bf16) (f : ℕ → Fin 128 → EReal) (hv : Rows base v f) :
    Rows (base + if c = 1#1 then h else 0) (keep h hn c v) (cx l s f) := by
  intro i k
  have hi := i.isLt
  unfold keep
  rw [scalar_select_apply]
  obtain ⟨q, rfl⟩ := hb
  subst hh
  have top : extractStridedSlice (M2 (2 ^ s)) ![0, 0] v (slices_top hn) (ix2 i k) = f (2 * 2 ^ s * q + i.val) k :=
    (slice2_axis0_apply 0 v _ i k ⟨i.val, by omega⟩ (Nat.zero_add _).symm).trans (hv _ _)
  have bottom : extractStridedSlice (M2 (2 ^ s)) ![2 ^ s, 0] v (slices_bottom hn) (ix2 i k) = f (2 * 2 ^ s * q + (2 ^ s + i.val)) k :=
    (slice2_axis0_apply (2 ^ s) v _ i k ⟨2 ^ s + i.val, by omega⟩ rfl).trans (hv _ _)
  by_cases h1 : c = 1#1
  · rw [if_pos h1, if_pos h1, maximumf_apply, top, bottom, Nat.add_assoc]
    unfold cx
    rw [testBit_high s _ _ hi, testBit_group hsl _ _ (by omega), hl, xor_high s _ _ hi]
    simp [max_comm]
  · rw [if_neg h1, if_neg h1, minimumf_apply, top, bottom, Nat.add_zero]
    unfold cx
    rw [testBit_low s _ _ hi, testBit_group hsl _ _ (by omega), hl, xor_low s _ _ hi]
    simp

/-! ## The flags and masks the kernel computes -/

/-- The word test of the mask: bit `t` of `g`, the other way round under `e`. -/
theorem word_flag (g t : ℕ) (hg : g < 2 ^ 31) (ht : t < 32) (e : Bool) :
    IntOp.cmpi .eq (IntOp.xori (IntOp.andi (IntOp.shrsi .vector (BitVec.ofNat 32 g) (BitVec.ofNat 32 t)) 1#32) (if e = true then 1#32 else 0#32)) 1#32 = 1#1
      ↔ (g.testBit t ^^ e) = true := by
  have hs : IntOp.shrsi .vector (BitVec.ofNat 32 g) (BitVec.ofNat 32 t) = BitVec.ofNat 32 (g >>> t) := by
    unfold IntOp.shrsi
    have h1 : (BitVec.ofNat 32 t).toNat = t := by
      rw [BitVec.toNat_ofNat]; exact Nat.mod_eq_of_lt (by omega)
    rw [if_pos (by rw [h1]; exact ht), BitVec.sshiftRight', h1, BitVec.sshiftRight_eq_of_msb_false (by
      rw [BitVec.msb_eq_false_iff_two_mul_lt, BitVec.toNat_ofNat, Nat.mod_eq_of_lt (by omega)]; omega)]
    apply BitVec.eq_of_toNat_eq
    rw [BitVec.toNat_ushiftRight, BitVec.toNat_ofNat, BitVec.toNat_ofNat, Nat.mod_eq_of_lt (by omega),
      Nat.mod_eq_of_lt (lt_of_le_of_lt (Nat.shiftRight_le g t) (by omega))]
  have ha : IntOp.andi (BitVec.ofNat 32 (g >>> t)) 1#32 = if g.testBit t = true then 1#32 else 0#32 := by
    apply BitVec.eq_of_toNat_eq
    have hlt : g >>> t < 2 ^ 32 := lt_of_le_of_lt (Nat.shiftRight_le g t) (by omega)
    show ((BitVec.ofNat 32 (g >>> t)) &&& 1#32).toNat = _
    rw [BitVec.toNat_and, BitVec.toNat_ofNat, Nat.mod_eq_of_lt hlt]
    show (g >>> t) &&& 1 = _
    rw [Nat.and_one_is_mod, Nat.testBit, Nat.one_and_eq_mod_two]
    rcases Nat.mod_two_eq_zero_or_one (g >>> t) with h | h <;> rw [h] <;> rfl
  rw [hs, ha]
  cases g.testBit t <;> cases e <;> decide

/-- The mask at a group's number. -/
theorem groupMask_apply (t : ℕ) (ht : t < 32) (e : Bool) (g : Fin G) (hg : g.val < 2 ^ 31) (r : Fin j) (k : Fin 128) :
    groupMask G j (BitVec.ofNat 32 t) (if e = true then 1#32 else 0#32) (ix3 g r k) = 1#1 ↔ (g.val.testBit t ^^ e) = true := by
  rw [← word_flag g t hg ht e]
  unfold groupMask
  rw [broadcastTo_apply _ _ (ix3 g r k) (ix3 g (0 : Fin 1) (0 : Fin 1)) (fun a => by
      match a with
      | ⟨0, _⟩ =>
        show g.val = if G = 1 then 0 else g.val
        have := g.isLt
        split <;> omega
      | ⟨1, _⟩ => rfl
      | ⟨2, _⟩ => rfl),
    shapeCast_apply _ _ _ (ix3 g (0 : Fin 1) (0 : Fin 1)) rfl]
  have hi : iota .tc ⟨3, ![G, 1, 1]⟩ 32 [0] (iotas_groups G) (ix3 g (0 : Fin 1) (0 : Fin 1)) = BitVec.ofNat 32 g.val := by
    show BitVec.ofNat 32 (0 * G + g.val) = _
    rw [Nat.zero_mul, Nat.zero_add]
  show IntOp.cmpi .eq (IntOp.xori (IntOp.andi (IntOp.shrsi .vector (iota .tc ⟨3, ![G, 1, 1]⟩ 32 [0] (iotas_groups G) (ix3 g (0 : Fin 1) (0 : Fin 1))) (BitVec.ofNat 32 t)) 1#32)
    (if e = true then 1#32 else 0#32)) 1#32 = 1#1 ↔ _
  rw [hi]

/-- An exchange of levels 0 to 7 on the 256 rows from `256 * q` on: the mask is turned round on level 7 where `q` is odd. -/
theorem rows_maskStep {q l s : ℕ} (hl : l ≤ 7) (hsl : s ≤ l) (e : Bool) (he : e = (decide (l = 7) && q.testBit 0))
    (v : FVec Ideal (M2 256) .bf16) (f : ℕ → Fin 128 → EReal) (hv : Rows (256 * q) v f) :
    Rows (256 * q) (maskStep 256 (BitVec.ofNat 32 (l - s)) (if e = true then 1#32 else 0#32) s v) (cx l s f) := by
  have hp : 2 * 2 ^ s = 2 ^ (s + 1) := by rw [pow_succ]; ring
  have h8 : (256 : ℕ) = 2 ^ (7 - s) * 2 ^ (s + 1) := by
    rw [← pow_add, show 7 - s + (s + 1) = 8 by omega]; norm_num
  have hd : 256 / (2 * 2 ^ s) = 2 ^ (7 - s) := by
    rw [hp, h8, Nat.mul_div_cancel _ (Nat.two_pow_pos _)]
  have hn : 256 = 256 / (2 * 2 ^ s) * (2 * 2 ^ s) := by rw [hd, hp]; exact h8
  unfold maskStep
  rw [dif_pos hn]
  refine rows_stageV hn rfl (Dvd.dvd.mul_right (hp ▸ ⟨2 ^ (7 - s), by rw [Nat.mul_comm]; exact h8⟩) q) hsl _ (fun g r k => ?_) v f hv
  have hg : g.val < 2 ^ (7 - s) := lt_of_lt_of_eq g.isLt hd
  have hg' : g.val < 2 ^ 31 := lt_of_lt_of_le hg (Nat.pow_le_pow_right (by norm_num) (by omega))
  rw [groupMask_apply (l - s) (by omega) e g hg']
  generalize g.val = g at hg hg'
  have hy : g * (2 * 2 ^ s) < 2 ^ 8 := by
    calc g * (2 * 2 ^ s) < 2 ^ (7 - s) * (2 * 2 ^ s) := Nat.mul_lt_mul_of_pos_right hg (by positivity)
      _ = 2 ^ 8 := by rw [hp]; exact h8.symm
  rw [show (256 : ℕ) = 2 ^ 8 by norm_num, Nat.testBit_two_pow_mul_add q hy, he]
  by_cases h7 : l = 7
  · subst h7
    rw [Nat.testBit_lt_two_pow hg]
    simp
  · rw [if_pos (by omega), hp, Nat.mul_comm, Nat.testBit_two_pow_mul]
    simp [h7, hsl]

/-- An exchange under one flag on the `2 ^ m` rows from a multiple of `2 ^ m` on. -/
theorem rows_flagStep {base l s m : ℕ} (hn : n = 2 ^ m) (hb : n ∣ base) (hsl : s ≤ l) (hs : s < m) (hm : m ≤ l + 1)
    (c : BitVec 1) (hc : c = 1#1 ↔ base.testBit (l + 1) = true)
    (v : FVec Ideal (M2 n) .bf16) (f : ℕ → Fin 128 → EReal) (hv : Rows base v f) :
    Rows base (flagStep n c s v) (cx l s f) := by
  have hp : 2 * 2 ^ s = 2 ^ (s + 1) := by rw [pow_succ]; ring
  have h8 : n = 2 ^ (m - (s + 1)) * 2 ^ (s + 1) := by
    rw [← pow_add, show m - (s + 1) + (s + 1) = m by omega]; exact hn
  have hd : n / (2 * 2 ^ s) = 2 ^ (m - (s + 1)) := by
    rw [hp, h8, Nat.mul_div_cancel _ (Nat.two_pow_pos _)]
  have hn' : n = n / (2 * 2 ^ s) * (2 * 2 ^ s) := by rw [hd, hp]; exact h8
  unfold flagStep
  rw [dif_pos hn']
  refine rows_stageS hn' rfl (dvd_trans (hp ▸ ⟨2 ^ (m - (s + 1)), by rw [Nat.mul_comm]; exact h8⟩) hb) hsl c (fun g hg => ?_) v f hv
  rw [hc]
  rw [hd] at hg
  have hy : g * (2 * 2 ^ s) < 2 ^ m := by
    calc g * (2 * 2 ^ s) < 2 ^ (m - (s + 1)) * (2 * 2 ^ s) := Nat.mul_lt_mul_of_pos_right hg (by positivity)
      _ = 2 ^ m := by rw [hp, ← h8]; exact hn
  obtain ⟨q, rfl⟩ := hb
  rw [hn, Nat.testBit_two_pow_mul_add q hy, Nat.testBit_two_pow_mul, if_neg (by omega)]
  simp [hm]

/-- Exchanges one after the other. -/
theorem rows_fold {base l : ℕ} (step : ℕ → FVec Ideal (M2 n) .bf16 → FVec Ideal (M2 n) .bf16) (ss : List ℕ)
    (h : ∀ s ∈ ss, ∀ v f, Rows base v f → Rows base (step s v) (cx l s f))
    (v : FVec Ideal (M2 n) .bf16) (f : ℕ → Fin 128 → EReal) (hv : Rows base v f) :
    Rows base (ss.foldl (fun v s => step s v) v) (run l ss f) := by
  induction ss generalizing v f with
  | nil => exact hv
  | cons s ss ih =>
    exact ih (fun s' hs' => h s' (List.mem_cons_of_mem _ hs')) _ _ (h s List.mem_cons_self _ _ hv)

/-- A level's distances. -/
theorem mem_down {l s : ℕ} : s ∈ down l ↔ s ≤ l := by
  unfold down
  rw [List.mem_reverse, List.mem_range]
  omega

end Cert.Stage

end
-- ==== Proof.Local.lean ====
/-
# The payloads as foldings of exchanges

What the kernel's straight-line text computes between two effects is, operation for operation, a folding of the exchanges of
`Stage.lean` over the distances of a level. Every equation here holds by unfolding, whatever the float values.
-/
module

public import proofs.«01_k».proof.Proof.FlatIdeal
public import proofs.«01_k».proof.Proof.Stage
public import Idealize.ShloMosaic.Lib.Tactic

@[expose] public section

noncomputable section

namespace Cert.KernelIdeal.Sort

open Cert.KernelIdeal Cert.KernelIdeal.Gen Cert.Stage Cert.Net
open Idealize.ShloMosaic Idealize.ShloMosaic.TcCoe

variable {F : FTy → Type} [FloatOps F]

/-- One level of the local sort. `d` turns the directions of the last level round. -/
def localLevel (d : BitVec 32) (l : ℕ) (v : FVec F (M2 256) .bf16) : FVec F (M2 256) .bf16 :=
  (down l).foldl (fun v s => maskStep 256 (BitVec.ofNat 32 (l - s)) (if l = 7 then d else 0#32) s v) v

/-- The local sort on rows: eight levels on the operand, rounded to the scratch buffer's format. -/
def localRows (d : BitVec 32) (x : FVec F S256x128 .f32) : FVec F (M2 256) .bf16 :=
  (List.range 8).foldl (fun v l => localLevel d l v) (truncf .bf16 (shapeCast S256x128 x shapeCasts_S256x128_S256x128) bitsLt_bf16_f32)

/-- The local sort as printed is those eight levels, laid out as one slot. -/
theorem localSort_eq (d : BitVec 32) (x : FVec F S256x128 .f32) :
    localSort d x = shapeCast S1x256x128 (localRows d x) shapeCasts_S256x128_S1x256x128 := by
  sl_kernel_rfl

/-- The merge of two slots as printed is level 8 on their rows. -/
theorem merge1_eq (d : BitVec 32) (v : FVec F S2x256x128 .bf16) :
    merge1 d v = shapeCast S2x256x128 (shapeCast S2x256x128 ((down 8).foldl (fun v s => flagStep 512 (isOne d) s v)
      (shapeCast S512x128 v shapeCasts_S2x256x128_S512x128)) shapeCasts_S512x128_S2x256x128) shapeCasts_S2x256x128_S2x256x128 := by
  sl_kernel_rfl

/-- The merge of four slots as printed is level 9 on their rows. -/
theorem merge2_eq (p : BitVec 32) (v : FVec F S4x256x128 .bf16) :
    merge2 p (Scalar.andi (Scalar.shrsi p 2#32) 1#32) v = shapeCast S4x256x128 (shapeCast S4x256x128
      ((down 9).foldl (fun v s => flagStep 1024 (isOne (Scalar.andi (Scalar.shrsi p 2#32) 1#32)) s v)
      (shapeCast S1024x128 v shapeCasts_S4x256x128_S1024x128)) shapeCasts_S1024x128_S4x256x128) shapeCasts_S4x256x128_S4x256x128 := by
  sl_kernel_rfl

/-- The merge of eight slots as printed is level 10 on their rows. -/
theorem merge3_eq (d : BitVec 32) (v : FVec F S8x256x128 .bf16) :
    merge3 d v = shapeCast S8x256x128 (shapeCast S8x256x128 ((down 10).foldl (fun v s => flagStep 2048 (isOne d) s v)
      (shapeCast S2048x128 v shapeCasts_S8x256x128_S2048x128)) shapeCasts_S2048x128_S8x256x128) shapeCasts_S8x256x128_S8x256x128 := by
  sl_kernel_rfl

/-- A bit of the device's number, as the flag the last round takes from it. -/
def hiBit (p t : BitVec 32) : BitVec 1 := isOne (Scalar.andi (Scalar.shrsi p t) 1#32)

/-- The half of all rows the device keeps, the half of that, and so on: 256 rows in the end. -/
def kept (p : BitVec 32) (v : FVec F (M2 4096) .bf16) : FVec F (M2 256) .bf16 :=
  keep 256 rfl (hiBit p 0#32) (keep 512 rfl (hiBit p 1#32) (keep 1024 rfl (hiBit p 2#32) (keep 2048 rfl (hiBit p 3#32) v)))

/-- The last round as printed keeps the device's rows and finishes the level on them in ascending order. -/
theorem final_eq (p : BitVec 32) (v : FVec F S16x256x128 .bf16) :
    final p v = extf .f32 ((down 7).foldl (fun v s => flagStep 256 0#1 s v)
      (kept p (shapeCast S4096x128 v shapeCasts_S16x256x128_S4096x128)) : FVec F (M2 256) .bf16) bitsLt_bf16_f32 := by
  sl_kernel_rfl

end Cert.KernelIdeal.Sort

end
-- ==== Proof.Blocks.lean ====
/-
# What one block of slots computes

On extended reals the local sort is the first eight levels of the network on the device's own rows, each merge is the next
level on a block of two, four or eight devices' rows, and the last round is the twelfth level, on the device's own rows again.
-/
module

public import proofs.«01_k».proof.Proof.Local

@[expose] public section

noncomputable section

namespace Cert.KernelIdeal.Sort

open Cert.KernelIdeal Cert.KernelIdeal.Gen Cert.Stage Cert.Net
open Idealize.ShloMosaic Idealize.ShloMosaic.TcCoe Idealize.ShloMosaic.ValueIdx

/-! ## The words the kernel reads off the device's number -/

/-- Bit 0 as the word the local sort takes; bits 1, 2, 3 as the flags of the merges. -/
theorem bit0_eq (c : Dev nD) : bit0 c = if c.val.testBit 0 = true then 1#32 else 0#32 := by revert c; decide +kernel
/-- The flag taken from bit 1 says whether bit 1 of the device's number is set. -/
theorem bit1_isOne (c : Dev nD) : isOne (bit1 c) = 1#1 ↔ c.val.testBit 1 = true := by revert c; decide +kernel
/-- The flag taken from bit 2 says whether bit 2 of the device's number is set. -/
theorem bit2_isOne (c : Dev nD) : isOne (bit2 c) = 1#1 ↔ c.val.testBit 2 = true := by revert c; decide +kernel
/-- The flag taken from bit 3 says whether bit 3 of the device's number is set. -/
theorem bit3_isOne (c : Dev nD) : isOne (bit3 c) = 1#1 ↔ c.val.testBit 3 = true := by revert c; decide +kernel

/-- The halves the last round keeps lead to the device's own rows. -/
theorem kept_base (c : Dev nD) : 0 + (if hiBit (pos c) 3#32 = 1#1 then 2048 else 0) + (if hiBit (pos c) 2#32 = 1#1 then 1024 else 0)
    + (if hiBit (pos c) 1#32 = 1#1 then 512 else 0) + (if hiBit (pos c) 0#32 = 1#1 then 256 else 0) = 256 * c.val := by
  revert c; decide +kernel

/-! ## Slots and rows -/

/-- Slots `o`, `o + 1`, … of 256 rows each hold the rows of a table. -/
def Slots {n : ℕ} (o : ℕ) (w : FVec Ideal (M3 n 256) .bf16) (f : ℕ → Fin 128 → EReal) : Prop :=
  ∀ (r : Fin n) (i : Fin 256) (k : Fin 128), w (ix3 r i k) = f (256 * (o + r.val) + i.val) k

/-- Slots laid out as rows. -/
theorem rows_of_slots {n N o : ℕ} (hN : N = n * 256) (h : (M3 n 256).ShapeCasts (M2 N)) (w : FVec Ideal (M3 n 256) .bf16)
    (f : ℕ → Fin 128 → EReal) (hw : Slots o w f) : Rows (256 * o) (shapeCast (M2 N) w h : FVec Ideal (M2 N) .bf16) f := by
  intro i k
  have hi := i.isLt
  have hr : i.val / 256 < n := Nat.div_lt_of_lt_mul (by omega)
  refine (shapeCast_apply _ _ _ (ix3 (⟨i.val / 256, hr⟩ : Fin n) (⟨i.val % 256, Nat.mod_lt _ (by decide)⟩ : Fin 256) k) (by
    rw [Shape.rowMajor_val_three, Shape.rowMajor_val_two]
    show (i.val / 256 * 256 + i.val % 256) * 128 + k.val = i.val * 128 + k.val
    rw [Nat.div_add_mod'])).trans ?_
  rw [hw]
  show f (256 * (o + i.val / 256) + i.val % 256) k = f (256 * o + i.val) k
  rw [show 256 * (o + i.val / 256) + i.val % 256 = 256 * o + i.val by omega]

/-- Rows laid out as slots. -/
theorem slots_of_rows {n N o : ℕ} (hN : N = n * 256) (h : (M2 N).ShapeCasts (M3 n 256)) (v : FVec Ideal (M2 N) .bf16)
    (f : ℕ → Fin 128 → EReal) (hv : Rows (256 * o) v f) : Slots o (shapeCast (M3 n 256) v h : FVec Ideal (M3 n 256) .bf16) f := by
  intro r i k
  have hlt : 256 * r.val + i.val < N := by have := r.isLt; have := i.isLt; omega
  refine (shapeCast_apply _ _ _ (ix2 (⟨256 * r.val + i.val, hlt⟩ : Fin N) k) (by
    rw [Shape.rowMajor_val_three, Shape.rowMajor_val_two]
    show (256 * r.val + i.val) * 128 + k.val = (r.val * 256 + i.val) * 128 + k.val
    ring)).trans ?_
  rw [hv]
  show f (256 * o + (256 * r.val + i.val)) k = f (256 * (o + r.val) + i.val) k
  rw [show 256 * o + (256 * r.val + i.val) = 256 * (o + r.val) + i.val by ring]

/-- A cast between equal shapes changes nothing. -/
theorem slots_cast {n o : ℕ} (h : (M3 n 256).ShapeCasts (M3 n 256)) (w : FVec Ideal (M3 n 256) .bf16) (f : ℕ → Fin 128 → EReal)
    (hw : Slots o w f) : Slots o (shapeCast (M3 n 256) w h : FVec Ideal (M3 n 256) .bf16) f :=
  fun r i k => (shapeCast_apply _ _ _ (ix3 r i k) rfl).trans (hw r i k)

/-! ## The levels -/

/-- A level on the device's own rows. -/
theorem rows_level (c : Dev nD) {l : ℕ} (hl : l ≤ 7) (v : FVec Ideal (M2 256) .bf16) (f : ℕ → Fin 128 → EReal)
    (hv : Rows (256 * c.val) v f) : Rows (256 * c.val) (localLevel (bit0 c) l v) (run l (down l) f) := by
  refine rows_fold _ (down l) (fun s hs v f hv => ?_) v f hv
  have he : (if l = 7 then bit0 c else 0#32) = if (decide (l = 7) && c.val.testBit 0) = true then 1#32 else 0#32 := by
    by_cases h : l = 7
    · rw [if_pos h, bit0_eq, decide_eq_true h, Bool.true_and]
    · rw [if_neg h, decide_eq_false h, Bool.false_and]; rfl
  rw [he]
  exact rows_maskStep hl (mem_down.mp hs) _ rfl v f hv

/-- The first levels on the device's own rows. -/
theorem rows_levels (c : Dev nD) (v : FVec Ideal (M2 256) .bf16) (f : ℕ → Fin 128 → EReal) (hv : Rows (256 * c.val) v f) (n : ℕ)
    (hn : n ≤ 8) : Rows (256 * c.val) ((List.range n).foldl (fun v l => localLevel (bit0 c) l v) v) (upto f n) := by
  induction n with
  | zero => exact hv
  | succ n ih =>
    rw [List.range_succ, List.foldl_append]
    exact rows_level c (by omega) _ _ (ih (by omega))

/-- **The local sort is the first eight levels.** -/
theorem slots_localSort (c : Dev nD) (x : FVec Ideal S256x128 .f32) (f : ℕ → Fin 128 → EReal)
    (hx : ∀ (i : Fin 256) (k : Fin 128), x (ix2 i k) = f (256 * c.val + i.val) k) :
    Slots (n := 1) c.val (localSort (bit0 c) x) (upto f 8) := by
  rw [localSort_eq]
  refine slots_of_rows (n := 1) (N := 256) rfl _ _ _ (rows_levels c _ f (fun i k => ?_) 8 le_rfl)
  exact (shapeCast_apply _ _ _ (ix2 i k) rfl).trans (hx i k)

/-- A level on a block of rows, all in one direction. -/
theorem rows_flags {n base l : ℕ} (m : ℕ) (hn : n = 2 ^ m) (hm : m = l + 1) (hb : n ∣ base) (c : BitVec 1)
    (hc : c = 1#1 ↔ base.testBit (l + 1) = true) (v : FVec Ideal (M2 n) .bf16) (f : ℕ → Fin 128 → EReal) (hv : Rows base v f) :
    Rows base ((down l).foldl (fun v s => flagStep n c s v) v) (run l (down l) f) := by
  refine rows_fold _ (down l) (fun s hs v f hv => ?_) v f hv
  have hs := mem_down.mp hs
  exact rows_flagStep hn hb hs (by omega) (by omega) c hc v f hv

/-- **The merges are the next three levels**: the merge of two slots is level 8. -/
theorem slots_merge1 (c : Dev nD) (w : FVec Ideal S2x256x128 .bf16) (f : ℕ → Fin 128 → EReal)
    (hw : Slots (n := 2) (c.val / 2 * 2) w (upto f 8)) : Slots (n := 2) (c.val / 2 * 2) (merge1 (bit1 c) w) (upto f 9) := by
  rw [merge1_eq]
  refine slots_cast (n := 2) _ _ _ (slots_of_rows (n := 2) (N := 512) rfl _ _ _
    (rows_flags 9 rfl rfl (by omega) _ ?_ _ _ (rows_of_slots (n := 2) (N := 512) rfl _ w _ hw)))
  rw [bit1_isOne]; clear hw; revert c; decide +kernel

/-- The merge of four slots is level 9. -/
theorem slots_merge2 (c : Dev nD) (w : FVec Ideal S4x256x128 .bf16) (f : ℕ → Fin 128 → EReal)
    (hw : Slots (n := 4) (c.val / 4 * 4) w (upto f 9)) : Slots (n := 4) (c.val / 4 * 4) (merge2 (pos c) (bit2 c) w) (upto f 10) := by
  unfold bit2
  rw [merge2_eq]
  refine slots_cast (n := 4) _ _ _ (slots_of_rows (n := 4) (N := 1024) rfl _ _ _
    (rows_flags 10 rfl rfl (by omega) _ ?_ _ _ (rows_of_slots (n := 4) (N := 1024) rfl _ w _ hw)))
  refine (bit2_isOne c).trans ?_
  clear hw; revert c; decide +kernel

/-- The merge of eight slots is level 10. -/
theorem slots_merge3 (c : Dev nD) (w : FVec Ideal S8x256x128 .bf16) (f : ℕ → Fin 128 → EReal)
    (hw : Slots (n := 8) (c.val / 8 * 8) w (upto f 10)) : Slots (n := 8) (c.val / 8 * 8) (merge3 (bit3 c) w) (upto f 11) := by
  rw [merge3_eq]
  refine slots_cast (n := 8) _ _ _ (slots_of_rows (n := 8) (N := 2048) rfl _ _ _
    (rows_flags 11 rfl rfl (by omega) _ ?_ _ _ (rows_of_slots (n := 8) (N := 2048) rfl _ w _ hw)))
  rw [bit3_isOne]; clear hw; revert c; decide +kernel

/-- The halves kept of all the rows: the first four exchanges of the last level. -/
theorem rows_kept (c : Dev nD) (v : FVec Ideal (M2 4096) .bf16) (f : ℕ → Fin 128 → EReal) (hv : Rows 0 v f) :
    Rows (256 * c.val) (kept (pos c) v) (run 11 [11, 10, 9, 8] f) := by
  rw [← kept_base c]
  unfold kept
  refine rows_keep (s := 8) rfl rfl ?_ (by decide) ?_ _ _ _ (rows_keep (s := 9) rfl rfl ?_ (by decide) ?_ _ _ _
    (rows_keep (s := 10) rfl rfl ?_ (by decide) ?_ _ _ _ (rows_keep (s := 11) rfl rfl ?_ (by decide) ?_ _ _ _ hv))) <;>
  first | decide | (split_ifs <;> decide)

/-- The last level's distances: four between devices, eight within one. -/
theorem down_eleven : down 11 = [11, 10, 9, 8] ++ down 7 := by decide

/-- **The last round is the twelfth level.** -/
theorem rows_final (c : Dev nD) (w : FVec Ideal S16x256x128 .bf16) (f : ℕ → Fin 128 → EReal) (hw : Slots (n := 16) 0 w (upto f 11))
    (i : Fin 256) (k : Fin 128) : final (pos c) w (ix2 i k) = upto f 12 (256 * c.val + i.val) k := by
  have hk := rows_kept c _ _ (rows_of_slots (n := 16) (N := 4096) rfl shapeCasts_S16x256x128_S4096x128 w _ hw)
  have hr := rows_fold (l := 11) (fun s v => flagStep 256 0#1 s v) (down 7) (fun s hs v f hv => by
    have hs := mem_down.mp hs
    refine rows_flagStep (m := 8) rfl (Nat.dvd_mul_right 256 c.val) (by omega) (by omega) (by omega) _ ?_ v f hv
    clear hw hk hv; revert c; decide +kernel) _ _ hk i k
  rw [final_eq, extf_apply, hr, ← run_append, ← down_eleven]
  rfl

end Cert.KernelIdeal.Sort

end
-- ==== Proof.Held.lean ====
/-
# What each device's buffers hold

Table by table: after each round the slots of a device's block hold the rows of the table the network has reached, and the
result block holds the device's rows of the sorted table.
-/
module

public import proofs.«01_k».proof.Proof.ProtoIdeal
public import proofs.«01_k».proof.Proof.Blocks

@[expose] public section

noncomputable section

namespace Cert.KernelIdeal.Sort

open Cert.KernelIdeal Cert.KernelIdeal.Gen Cert.Stage Cert.Net
open Idealize.ShloMosaic Idealize.ShloMosaic.TcCoe Idealize.ShloMosaic.ValueIdx

/-- The slots of `c`'s block of `2 ^ j` devices hold the rows of a table. -/
def Held (j : ℕ) (c : Dev nD) (g : Scr Ideal) (f : ℕ → Fin 128 → EReal) : Prop :=
  ∀ (b : Fin 16) (i : Fin 256) (k : Fin 128), (ix3 b i k : S16x256x128.Idx) ∈ blk j c → g (ix3 b i k) = f (256 * b.val + i.val) k

/-- A rectangle of whole slots, by slot. -/
theorem idx_slots {n o : ℕ} (off : Fin 3 → ℕ) (ho : off = ![o, 0, 0]) (inb) (r : Fin n) (i : Fin 256) (k : Fin 128) (hr : o + r.val < 16) :
    (Rect.unit (s := S16x256x128) off (M3 n 256).size inb).toLoadRect.idx (ix3 r i k) = ix3 (⟨o + r.val, hr⟩ : Fin 16) i k := by
  subst ho
  funext a
  refine Fin.ext ?_
  match a with
  | ⟨0, _⟩ => show o + 1 * r.val = o + r.val; rw [Nat.one_mul]
  | ⟨1, _⟩ => show 0 + 1 * i.val = i.val; rw [Nat.one_mul, Nat.zero_add]
  | ⟨2, _⟩ => show 0 + 1 * k.val = k.val; rw [Nat.one_mul, Nat.zero_add]

/-- A rectangle's slots are slots of the buffer. -/
theorem slot_bound {n o : ℕ} (off : Fin 3 → ℕ) (ho : off = ![o, 0, 0])
    (inb : ∀ a, off a + (M3 n 256).size a ≤ S16x256x128.size a) (r : Fin n) : o + r.val < 16 := by
  subst ho
  have h : o + n ≤ 16 := inb 0
  have := r.isLt
  omega

/-- What is loaded from a block of slots that hold a table's rows. -/
theorem slots_get {n o j : ℕ} (c : Dev nD) (off : Fin 3 → ℕ) (ho : off = ![o, 0, 0])
    (inb : ∀ a, off a + (M3 n 256).size a ≤ S16x256x128.size a)
    (hset : (Rect.unit (s := S16x256x128) off (M3 n 256).size inb).set = blk j c) (g : Scr Ideal) (f : ℕ → Fin 128 → EReal)
    (hg : Held j c g f) : Slots (n := n) o (get (Rect.unit (s := S16x256x128) off (M3 n 256).size inb) g) f := by
  intro r i k
  have hr := slot_bound off ho inb r
  have hi := idx_slots off ho inb r i k hr
  refine Eq.trans (b := g (ix3 (⟨o + r.val, hr⟩ : Fin 16) i k)) (congrArg g hi) (hg _ i k ?_)
  rw [← hset, mem_slots off o n ho _ rfl inb]
  exact ⟨Nat.le_add_right _ _, Nat.add_lt_add_left r.isLt _⟩

/-- What a block of slots holds after a table's rows are stored in it. -/
theorem held_put {n o j : ℕ} (c : Dev nD) (off : Fin 3 → ℕ) (ho : off = ![o, 0, 0])
    (inb : ∀ a, off a + (M3 n 256).size a ≤ S16x256x128.size a)
    (hset : (Rect.unit (s := S16x256x128) off (M3 n 256).size inb).set = blk j c) (g : Scr Ideal)
    (w : (Rect.unit (s := S16x256x128) off (M3 n 256).size inb).shape.Idx → Elt Ideal .bf16) (f : ℕ → Fin 128 → EReal)
    (hw : Slots (n := n) o w f) : Held j c (put (Rect.unit (s := S16x256x128) off (M3 n 256).size inb) g w) f := by
  intro b i k hb
  rw [← hset, mem_slots off o n ho _ rfl inb] at hb
  have h1 : o ≤ b.val := hb.1
  have h2 : b.val < o + n := hb.2
  have hr : b.val - o < n := by omega
  have hi := idx_slots off ho inb (⟨b.val - o, hr⟩ : Fin n) i k (by have := b.isLt; show o + (b.val - o) < 16; omega)
  have he : (ix3 (⟨o + (b.val - o), by have := b.isLt; omega⟩ : Fin 16) i k : S16x256x128.Idx) = ix3 b i k :=
    congrArg (fun b : Fin 16 => (ix3 b i k : S16x256x128.Idx)) (Fin.ext (show o + (b.val - o) = b.val by omega))
  rw [← hi.trans he]
  refine (View.write_emb_of_mem (v := (bM.access (Rect.unit (s := S16x256x128) off (M3 n 256).size inb) : View sig .tc _ _ _)) g w
    (Finset.mem_univ (ix3 (⟨b.val - o, hr⟩ : Fin n) i k))).trans ((hw _ i k).trans ?_)
  show f (256 * (o + (b.val - o)) + i.val) k = f (256 * b.val + i.val) k
  rw [show o + (b.val - o) = b.val by omega]

/-- Joined with the partner's, the block of twice the size holds the table's rows. -/
theorem held_join (j : Fin 4) (g : Dev nD → Scr Ideal) (f : ℕ → Fin 128 → EReal) (hg : ∀ c, Held j.val c (g c) f) (c : Dev nD) :
    Held (j.val + 1) c (join j g c) f := by
  intro b i k hb
  rw [blk_succ, Finset.mem_union] at hb
  unfold join
  by_cases h : (ix3 b i k : S16x256x128.Idx) ∈ blk j.val (pt j c)
  · rw [Finset.piecewise_eq_of_mem _ _ _ h]; exact hg _ b i k h
  · rw [Finset.piecewise_eq_of_notMem _ _ _ h]; exact hg _ b i k (hb.resolve_right h)

variable (m : (ℓ : Loc nD τ sig) → Buf (Elt Ideal) ℓ) (ρ : Dev nD → PrngReg) (f : ℕ → Fin 128 → EReal)

/-- The staged blocks hold the table's rows. -/
def Staged : Prop := ∀ (c : Dev nD) (i : Fin 256) (k : Fin 128), xstg m ρ c (ix2 i k) = f (256 * c.val + i.val) k

variable {m ρ f} (hx : Staged m ρ f)
include hx

/-- The local sort, and then each round in turn: what is stored (`B`) and what is held once the partner's slots are in (`J`). -/
theorem held_B0 (c : Dev nD) : Held 0 c (B0 m ρ c) (upto f 8) :=
  held_put (n := 1) c _ (k0_off1_eq c) _ (q0_set c) _ _ _ (slots_localSort c _ f (hx c))
/-- Held after round 0. -/
theorem held_J0 (c : Dev nD) : Held 1 c (J0 m ρ c) (upto f 8) := held_join 0 _ _ (held_B0 hx) c
/-- Stored before round 1. -/
theorem held_B1 (c : Dev nD) : Held 1 c (B1 m ρ c) (upto f 9) :=
  held_put (n := 2) c _ (off3_eq c) _ (q1_set c) _ _ _ (slots_merge1 c _ f (slots_get (n := 2) c _ (off3_eq c) _ (q1_set c) _ _ (held_J0 hx c)))
/-- Held after round 1. -/
theorem held_J1 (c : Dev nD) : Held 2 c (J1 m ρ c) (upto f 9) := held_join 1 _ _ (held_B1 hx) c
/-- Stored before round 2. -/
theorem held_B2 (c : Dev nD) : Held 2 c (B2 m ρ c) (upto f 10) :=
  held_put (n := 4) c _ (off5_eq c) _ (q2_set c) _ _ _ (slots_merge2 c _ f (slots_get (n := 4) c _ (off5_eq c) _ (q2_set c) _ _ (held_J1 hx c)))
/-- Held after round 2. -/
theorem held_J2 (c : Dev nD) : Held 3 c (J2 m ρ c) (upto f 10) := held_join 2 _ _ (held_B2 hx) c
/-- Stored before round 3. -/
theorem held_B3 (c : Dev nD) : Held 3 c (B3 m ρ c) (upto f 11) :=
  held_put (n := 8) c _ (off7_eq c) _ (q3_set c) _ _ _ (slots_merge3 c _ f (slots_get (n := 8) c _ (off7_eq c) _ (q3_set c) _ _ (held_J2 hx c)))
/-- Held after round 3. -/
theorem held_J3 (c : Dev nD) : Held 4 c (J3 m ρ c) (upto f 11) := held_join 3 _ _ (held_B3 hx) c

/-- **A device's result block holds its rows of the sorted table.** -/
theorem outAt_apply (c : Dev nD) (i : Fin 256) (k : Fin 128) : outAt m ρ c (ix2 i k) = upto f 12 (256 * c.val + i.val) k := by
  refine rows_final c (J3 m ρ c) f (fun r i k => ?_) i k
  rw [Nat.zero_add]
  exact held_J3 hx c r i k (by rw [blk_four]; exact Finset.mem_univ _)

end Cert.KernelIdeal.Sort

end
-- ==== Proof.Ref.lean ====
/-
# What the reference computes

The reference sorts each column of the whole array by the order of the extended reals. The network of twelve levels holds the
same column at the end: both are monotone and both hold the entries of the column, and only one arrangement of them is monotone.
-/
module

public import proofs.«01_k».proof.ReferenceIdeal
public import proofs.«01_k».proof.Proof.Net
public import Idealize.ShloMosaic.Lib.SortFacts
public import Idealize.ShloMosaic.Lib.ValueIdx
public import Idealize.ShloMosaic.PureOps.Ideal
public import Mathlib.Order.Interval.Finset.Fin

@[expose] public section

noncomputable section

namespace Cert.Ref

open Cert.ReferenceIdeal Cert.Net
open Idealize.ShloMosaic Idealize.ShloMosaic.ValueIdx

/-! ## One monotone arrangement -/

/-- A monotone arrangement of the entries of a monotone column is nowhere above it: otherwise the entries up to that row would
all have to stand in the rows before it. -/
theorem arranged_le {α : Type} [LinearOrder α] {n : ℕ} {g h : Fin n → α} (hg : Monotone g) (hh : Monotone h)
    (π : Equiv.Perm (Fin n)) (hπ : h = g ∘ π) (i : Fin n) : h i ≤ g i := by
  by_contra hlt
  rw [not_le] at hlt
  have hmap : ∀ j ∈ Finset.Iic i, π.symm j ∈ Finset.Iio i := by
    intro j hj
    rw [Finset.mem_Iic] at hj
    rw [Finset.mem_Iio]
    by_contra hle
    have h1 := hh (not_lt.mp hle)
    rw [show h (π.symm j) = g j by rw [hπ]; exact congrArg g (π.apply_symm_apply j)] at h1
    exact absurd (lt_of_lt_of_le hlt h1) (not_lt.mpr (hg hj))
  have hc := Finset.card_le_card_of_injOn π.symm hmap π.symm.injective.injOn
  rw [Fin.card_Iic, Fin.card_Iio] at hc
  omega

/-- Two monotone arrangements of the same entries are the same. -/
theorem arranged_unique {α : Type} [LinearOrder α] {n : ℕ} {f : Fin n → α} {σ τ : Equiv.Perm (Fin n)}
    (hσ : Monotone (f ∘ σ)) (hτ : Monotone (f ∘ τ)) : f ∘ σ = f ∘ τ := by
  funext i
  refine le_antisymm (arranged_le hτ hσ (σ.trans τ.symm) ?_ i) (arranged_le hσ hτ (τ.trans σ.symm) ?_ i)
  · funext j; simp
  · funext j; simp

/-! ## The sort -/

/-- The reference's comparator is the strict order of the extended reals. -/
theorem comparator_eq (l r : Ideal .f32) : comparator_f32_d0 (F := Ideal) l r = BitVec.ofBool (decide ((l : EReal) < r)) := by
  have key : ∀ a : Ideal .f32, Scalar.select (FloatOps.cmpf (F := Ideal) .une a a) (FloatOps.ofBits (F := Ideal) .f32 0x7FC00000#32)
      (Scalar.select (FloatOps.cmpf (F := Ideal) .oeq a (FloatOps.ofBits (F := Ideal) .f32 0x00000000#32))
        (FloatOps.ofBits (F := Ideal) .f32 0x00000000#32) a) = a := by
    intro a
    have h0 : (FloatOps.ofBits (F := Ideal) .f32 0x00000000#32 : EReal) = 0 := by
      show Ideal.ofBits .f32 0x00000000#32 = 0
      simp [Ideal.ofBits, Ideal.ieee]
    have h1 : FloatOps.cmpf (F := Ideal) .une a a = 0#1 := by
      show BitVec.ofBool (decide ((a : EReal) ≠ a)) = 0#1
      simp
    rw [h1]
    show Scalar.select _ _ a = a
    by_cases ha : (a : EReal) = 0
    · have h2 : FloatOps.cmpf (F := Ideal) .oeq a (FloatOps.ofBits (F := Ideal) .f32 0x00000000#32) = 1#1 := by
        show BitVec.ofBool (decide ((a : EReal) = (FloatOps.ofBits (F := Ideal) .f32 0x00000000#32 : EReal))) = 1#1
        rw [h0, ha]; simp
      rw [h2]
      exact h0.trans ha.symm
    · have h2 : FloatOps.cmpf (F := Ideal) .oeq a (FloatOps.ofBits (F := Ideal) .f32 0x00000000#32) = 0#1 := by
        show BitVec.ofBool (decide ((a : EReal) = (FloatOps.ofBits (F := Ideal) .f32 0x00000000#32 : EReal))) = 0#1
        rw [h0]; simp [ha]
      rw [h2]
      rfl
  unfold comparator_f32_d0
  dsimp only
  rw [key l, key r]
  rfl

/-- The array as a table of rows; past its 4096 rows the table holds zero, which nothing reads. -/
def table (x : FVec Ideal S4096x128 .f32) : ℕ → Fin 128 → EReal := fun i k => if h : i < 4096 then x (ix2 ⟨i, h⟩ k) else 0

/-- At a row of the array, the table is the array. -/
theorem table_apply (x : FVec Ideal S4096x128 .f32) (i : Fin 4096) (k : Fin 128) : table x i.val k = x (ix2 i k) :=
  dif_pos i.isLt

/-- The position in the table's column that the reference's sort puts in row `i` of column `k`. -/
def place (x : FVec Ideal S4096x128 .f32) (k : Fin 128) : Fin 4096 → Fin 4096 :=
  sortedFrom fun a b => decide ((x (ix2 a k) : EReal) < x (ix2 b k))

/-- Every position is put in exactly one row. -/
theorem place_bijective (x : FVec Ideal S4096x128 .f32) (k : Fin 128) : Function.Bijective (place x k) :=
  ⟨sortedFrom_injective _, sortedFrom_surjective _⟩

/-- The reference's result is read through that position. -/
theorem sort_apply (x : FVec Ideal S4096x128 .f32) (i : Fin 4096) (k : Fin 128) :
    Host.sort S4096x128 0 (comparator_f32_d0 (F := Ideal)) x (ix2 i k) = x (ix2 (place x k i) k) := by
  have hal : ∀ a : Fin 4096, (ix2 i k : S4096x128.Idx).along (0 : Fin 2) a = ix2 a k := by
    intro a
    unfold Shape.Idx.along
    funext b
    match b with
    | ⟨0, _⟩ => exact Function.update_self _ _ _
    | ⟨1, _⟩ => exact Function.update_of_ne (show (1 : Fin 2) ≠ 0 by decide) _ _
  have hrel : (fun a b : Fin 4096 => comparator_f32_d0 (F := Ideal) (x ((ix2 i k : S4096x128.Idx).along (0 : Fin 2) a))
      (x ((ix2 i k : S4096x128.Idx).along (0 : Fin 2) b)) == 1#1) = fun a b => decide ((x (ix2 a k) : EReal) < x (ix2 b k)) := by
    funext a b
    rw [hal, hal, comparator_eq]
    by_cases h : (x (ix2 a k) : EReal) < x (ix2 b k) <;> simp [h]
  show x ((ix2 i k : S4096x128.Idx).along (0 : Fin 2) (sortedFrom (fun a b : Fin 4096 => comparator_f32_d0 (F := Ideal)
    (x ((ix2 i k : S4096x128.Idx).along (0 : Fin 2) a)) (x ((ix2 i k : S4096x128.Idx).along (0 : Fin 2) b)) == 1#1) i)) = _
  rw [hrel]
  exact congrArg x (hal _)

/-- The reference's column is monotone. -/
theorem sort_monotone (x : FVec Ideal S4096x128 .f32) (k : Fin 128) :
    Monotone fun i : Fin 4096 => (x (ix2 (place x k i) k) : EReal) := by
  intro i j hij
  rcases eq_or_lt_of_le hij with rfl | hlt
  · exact le_refl _
  · have h := sortedFrom_noInversion (fun a b : Fin 4096 => decide ((x (ix2 a k) : EReal) < x (ix2 b k)))
      (fun a b => decide ((x (ix2 a k) : EReal) < x (ix2 b k)))
      (fun a b h => by simp only [decide_eq_true_eq] at h; simp only [decide_eq_false_iff_not]; exact not_lt.mpr h.le)
      (fun a b h => h)
      (fun a b c h h' => by simp only [decide_eq_false_iff_not, not_lt] at h h' ⊢; exact h'.trans h)
      i j hlt
    simp only [decide_eq_false_iff_not, not_lt] at h
    exact h

/-- **The reference holds what the network of twelve levels holds.** -/
theorem sort_eq (x : FVec Ideal S4096x128 .f32) (i : Fin 4096) (k : Fin 128) :
    Host.sort S4096x128 0 (comparator_f32_d0 (F := Ideal)) x (ix2 i k) = upto (table x) 12 i.val k := by
  obtain ⟨σ, hσ⟩ : ∃ σ : Equiv.Perm (Fin 4096), (fun i : Fin 4096 => upto (table x) 12 i.val k) =
    (fun i : Fin 4096 => table x i.val k) ∘ σ := upto_perm 12 (table x) k
  have hm : Monotone fun i : Fin 4096 => upto (table x) 12 i.val k := upto_monotone 12 (table x) k
  rw [hσ] at hm
  have hp : (fun i : Fin 4096 => (x (ix2 (place x k i) k) : EReal)) =
      (fun i : Fin 4096 => table x i.val k) ∘ Equiv.ofBijective (place x k) (place_bijective x k) :=
    funext fun i => by rw [Function.comp_apply, Equiv.ofBijective_apply, table_apply]
  have hs := sort_monotone x k
  rw [hp] at hs
  have he := arranged_unique hs hm
  rw [sort_apply]
  exact (congrFun (hp.trans (he.trans hσ.symm)) i :)

end Cert.Ref

end
-- ==== Proof.Value.lean ====
/-
# The equation of the kernel and the reference

The launch stages each device's whole block and writes back its whole result block. So every device ends with its block of
the sorted table, which is the reference's array.
-/
module

public import proofs.«01_k».proof.Defs
public import proofs.«01_k».proof.Proof.RunIdeal
public import proofs.«01_k».proof.Proof.Held
public import proofs.«01_k».proof.Proof.Ref
public import proofs.«01_k».proof.Proof.Gen.ReferenceIdeal.Run

@[expose] public section

noncomputable section

namespace Cert.KernelIdeal.Sort

open Cert.KernelIdeal Cert.KernelIdeal.Gen Cert.Net Cert.Ref
open Idealize.ShloMosaic Idealize.ShloMosaic.TcCoe Idealize.ShloMosaic.ValueIdx
open Idealize.SL.Sem

section Windows

variable {F : FTy → Type} [FloatOps F] (m : (ℓ : Loc nD τ sig) → Buf (Elt F) ℓ) (ρ : Dev nD → PrngReg)

/-- The operand's one block is the whole array. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result's one block is the whole array, and after the run it holds what the body left. -/
theorem finalA_o (c : Dev nD) : finalA m ρ c (1 : Fin 2) = outAt m ρ c := by
  have hz : (fun a => (win0_1.index (0 : Fin 1)) a * main_v1.ty.shape.size a) = fun _ => 0 :=
    funext fun a => by fin_cases a <;> decide
  refine Eq.trans (Memref.read_access_unit_zero (Elt F) main_v1 hz (fun a => by fin_cases a <;> decide) _).symm ?_
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

end Windows

/-- Row `i` of block `c` of an array is its row `256 c + i`. -/
theorem block_row {α : Type} (v : (⟨2, ![4096, 128]⟩ : Shape).Idx → α) (c : Dev nD) (i : Fin 256) (k : Fin 128)
    (h : 256 * c.val + i.val < 4096) :
    Layout.block ⟨2, ![256, 128]⟩ ⟨2, ![4096, 128]⟩ 0 16 c v (by decide) (ix2 i k) = v (ix2 (⟨256 * c.val + i.val, h⟩ : Fin 4096) k) := by
  rw [Layout.block_apply]
  refine congrArg v (funext fun a => Fin.ext ?_)
  match a with
  | ⟨0, _⟩ => exact (Layout.idx_rows_val _ c (ix2 i k)).1.trans (congrArg (· + i.val) (Nat.mul_comm c.val 256))
  | ⟨1, _⟩ => exact (Layout.idx_rows_val _ c (ix2 i k)).2

/-- **Each device's result is its block of the reference's array.** -/
theorem outAt_eq (m : (ℓ : Loc nD τ sig) → Buf (Elt Ideal) ℓ) (ρ : Dev nD → PrngReg) (x : FVec Ideal ⟨2, ![4096, 128]⟩ .f32)
    (hx : ∀ c : Dev nD, m ((c : Thread nD τ).loc main_arg0) = Layout.block ⟨2, ![256, 128]⟩ ⟨2, ![4096, 128]⟩ 0 16 c x) (c : Dev nD) :
    outAt m ρ c = Layout.block ⟨2, ![256, 128]⟩ ⟨2, ![4096, 128]⟩ 0 16 c
      (Host.sort Cert.ReferenceIdeal.S4096x128 0 (Cert.ReferenceIdeal.comparator_f32_d0 (F := Ideal)) x) := by
  have hlt : ∀ (c : Dev nD) (i : Fin 256), 256 * c.val + i.val < 4096 := fun c i => by
    have h : c.val < 16 := c.isLt
    have := i.isLt
    omega
  have hs : Staged m ρ (table x) := fun c i k => by
    rw [xstg_eq, hx c]
    exact (block_row x c i k (hlt c i)).trans (table_apply x ⟨256 * c.val + i.val, hlt c i⟩ k).symm
  have key : ∀ (i : Fin 256) (k : Fin 128), outAt m ρ c (ix2 i k) = Layout.block ⟨2, ![256, 128]⟩ ⟨2, ![4096, 128]⟩ 0 16 c
      (Host.sort Cert.ReferenceIdeal.S4096x128 0 (Cert.ReferenceIdeal.comparator_f32_d0 (F := Ideal)) x) (by decide) (ix2 i k) := fun i k =>
    (outAt_apply hs c i k).trans ((block_row _ c i k (hlt c i)).trans (sort_eq x ⟨256 * c.val + i.val, hlt c i⟩ k)).symm
  funext y
  rw [eq_ix2 y]
  exact key _ _

end Cert.KernelIdeal.Sort

namespace Cert.Proof

open Cert.KernelIdeal Cert.KernelIdeal.Sort Idealize.ShloMosaic Idealize.SL.Sem

/-- The kernel and the reference, read on extended reals, compute the same array. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨_, (θ_run defs _ _).mono (fun _ h c => ⟨(h.1 c (1 : Fin 2)).trans ((finalA_o m ρ c).trans (outAt_eq m ρ _ hagree c)),
    (h.1 c (0 : Fin 2)).trans (finalA_x m ρ c)⟩) (run_main (F := Ideal) m ρ), ?_⟩
  exact (θ_run Cert.ReferenceIdeal.defs _ _).mono (fun _ h => h 0) (Cert.ReferenceIdeal.Value.run (F := Ideal) m' ρ')

end Cert.Proof

end
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem Cert.Kernel

/-- Every claim of the certificate. The idealization rewrote no operation, so nothing is to be shown of it. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
